-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x12544 : Shape := ⟨2, ![4096, 12544]⟩
abbrev S5000 : Shape := ⟨1, ![5000]⟩
abbrev S4096x2 : Shape := ⟨2, ![4096, 2]⟩
abbrev S12544x1024 : Shape := ⟨2, ![12544, 1024]⟩
abbrev S1024 : Shape := ⟨1, ![1024]⟩
abbrev S1024x1024 : Shape := ⟨2, ![1024, 1024]⟩
abbrev S1024x600 : Shape := ⟨2, ![1024, 600]⟩
abbrev S600 : Shape := ⟨1, ![600]⟩
abbrev S_ : Shape := ⟨0, ![]⟩

class Facts : Prop where
  bcast_S_S5000 : S_.BroadcastsInDim S5000 (![] : Fin 0 → Fin S5000.rank)
  reducesTo_S5000_S_d0 : S5000.ReducesTo [0] S_
  h_S_ : 0 < S_.numel
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S4096x12544 .f32) (main_arg1 : FVec F S5000 .f32) (main_arg2 : IVec S5000 32) (main_arg3 : IVec S4096x2 32) (main_arg4 : FVec F S12544x1024 .f32) (main_arg5 : FVec F S1024 .f32) (main_arg6 : FVec F S1024x1024 .f32) (main_arg7 : FVec F S1024 .f32) (main_arg8 : FVec F S1024x600 .f32) (main_arg9 : FVec F S600 .f32) : IVec S_ 1 :=
  let main_c : IVec S_ 32 := constantI S_ 32 0#32
  let main_v0 : IVec S5000 32 := broadcastInDim S5000 ![] bcast_S_S5000 main_c
  let main_v1 : IVec S5000 1 := cmpi .sge main_arg2 main_v0
  let main_c_0 : IVec S_ 1 := constantI S_ 1 1#1
  let main_v2 : IVec S_ 1 := (fun x v => Host.reduce IntOp.andi x v reducesTo_S5000_S_d0 h_S_) main_v1 main_c_0
  let main_c_1 : IVec S_ 32 := constantI S_ 32 80#32
  let main_v3 : IVec S5000 32 := broadcastInDim S5000 ![] bcast_S_S5000 main_c_1
  let main_v4 : IVec S5000 1 := cmpi .slt main_arg2 main_v3
  let main_c_2 : IVec S_ 1 := constantI S_ 1 1#1
  let main_v5 : IVec S_ 1 := (fun x v => Host.reduce IntOp.andi x v reducesTo_S5000_S_d0 h_S_) main_v4 main_c_2
  let main_v6 : IVec S_ 1 := andi main_v2 main_v5
  let main_c_3 : IVec S_ 32 := constantI S_ 32 0#32
  let main_v7 : IVec S4096x2 32 := broadcastInDim S4096x2 ![] bcast_S_S4096x2 main_c_3
  let main_v8 : IVec S4096x2 1 := cmpi .sge main_arg3 main_v7
  let main_c_4 : IVec S_ 1 := constantI S_ 1 1#1
  let main_v9 : IVec S_ 1 := (fun x v => Host.reduce IntOp.andi x v reducesTo_S4096x2_S_d0_1 h_S_) main_v8 main_c_4
  let main_v10 : IVec S_ 1 := andi main_v6 main_v9
  let main_c_5 : IVec S_ 32 := constantI S_ 32 5000#32
  let main_v11 : IVec S4096x2 32 := broadcastInDim S4096x2 ![] bcast_S_S4096x2 main_c_5
  let main_v12 : IVec S4096x2 1 := cmpi .slt main_arg3 main_v11
  let main_c_6 : IVec S_ 1 := constantI S_ 1 1#1
  let main_v13 : IVec S_ 1 := (fun x v => Host.reduce IntOp.andi x v reducesTo_S4096x2_S_d0_1 h_S_) main_v12 main_c_6
  let main_v14 : IVec S_ 1 := andi main_v10 main_v13
  main_v14
-- ==== Kernel.lean ====
abbrev S4096x12544 : Shape := ⟨2, ![4096, 12544]⟩
abbrev S5000 : Shape := ⟨1, ![5000]⟩
abbrev S4096x2 : Shape := ⟨2, ![4096, 2]⟩
abbrev S12544x1024 : Shape := ⟨2, ![12544, 1024]⟩
abbrev S1024 : Shape := ⟨1, ![1024]⟩
abbrev S1024x1024 : Shape := ⟨2, ![1024, 1024]⟩
abbrev S1024x600 : Shape := ⟨2, ![1024, 600]⟩
abbrev S600 : Shape := ⟨1, ![600]⟩
abbrev S4096x1 : Shape := ⟨2, ![4096, 1]⟩
abbrev S4096 : Shape := ⟨1, ![4096]⟩
abbrev S128 : Shape := ⟨1, ![128]⟩
abbrev S_ : Shape := ⟨0, ![]⟩
abbrev S16 : Shape := ⟨1, ![16]⟩
abbrev S1x1024 : Shape := ⟨2, ![1, 1024]⟩
abbrev S1x600 : Shape := ⟨2, ![1, 600]⟩
abbrev S4096x600 : Shape := ⟨2, ![4096, 600]⟩
abbrev S2048x1 : Shape := ⟨2, ![2048, 1]⟩
abbrev S2048x896 : Shape := ⟨2, ![2048, 896]⟩
abbrev S896x1024 : Shape := ⟨2, ![896, 1024]⟩
abbrev S2048x600 : Shape := ⟨2, ![2048, 600]⟩
abbrev S2048x1024 : Shape := ⟨2, ![2048, 1024]⟩
abbrev S256x600 : Shape := ⟨2, ![256, 600]⟩
abbrev S256x1024 : Shape := ⟨2, ![256, 1024]⟩
abbrev S256x1 : Shape := ⟨2, ![256, 1]⟩

abbrev nBuf : Table → Nat
  | .hbm => 22
  | .local .tc .vmem => 16
  | .local .scVector .vmem => 6
  | _ => 0

abbrev bufTy : (tb : Table) → Fin (nBuf tb) → BufTy
  | .hbm, ⟨0, _⟩ => ⟨S4096x12544, .f32⟩
  | .hbm, ⟨1, _⟩ => ⟨S5000, .f32⟩
  | .hbm, ⟨2, _⟩ => ⟨S5000, .i32⟩
  | .hbm, ⟨3, _⟩ => ⟨S4096x2, .i32⟩
  | .hbm, ⟨4, _⟩ => ⟨S12544x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x600, .f32⟩
  | .hbm, ⟨9, _⟩ => ⟨S600, .f32⟩
  | .hbm, ⟨10, _⟩ => ⟨S4096x1, .i32⟩
  | .hbm, ⟨11, _⟩ => ⟨S4096, .i32⟩
  | .hbm, ⟨12, _⟩ => ⟨S4096x1, .i32⟩
  | .hbm, ⟨13, _⟩ => ⟨S4096, .i32⟩
  | .hbm, ⟨14, _⟩ => ⟨S4096, .f32⟩
  | .hbm, ⟨15, _⟩ => ⟨S4096, .i32⟩
  | .hbm, ⟨16, _⟩ => ⟨S4096x1, .f32⟩
  | .hbm, ⟨17, _⟩ => ⟨S4096x1, .i32⟩
  | .hbm, ⟨18, _⟩ => ⟨S1x1024, .f32⟩
  | .hbm, ⟨19, _⟩ => ⟨S1x1024, .f32⟩
  | .hbm, ⟨20, _⟩ => ⟨S1x600, .f32⟩
  | .hbm, ⟨21, _⟩ => ⟨S4096x600, .f32⟩
  | .local .tc .vmem, ⟨0, _⟩ => ⟨S2048x1, .f32⟩
  | .local .tc .vmem, ⟨1, _⟩ => ⟨S2048x1, .f32⟩
  | .local .tc .vmem, ⟨2, _⟩ => ⟨S2048x1, .i32⟩
  | .local .tc .vmem, ⟨3, _⟩ => ⟨S2048x1, .i32⟩
  | .local .tc .vmem, ⟨4, _⟩ => ⟨S2048x896, .f32⟩
  | .local .tc .vmem, ⟨5, _⟩ => ⟨S2048x896, .f32⟩
  | .local .tc .vmem, ⟨6, _⟩ => ⟨S896x1024, .f32⟩
  | .local .tc .vmem, ⟨7, _⟩ => ⟨S896x1024, .f32⟩
  | .local .tc .vmem, ⟨8, _⟩ => ⟨S1x1024, .f32⟩
  | .local .tc .vmem, ⟨9, _⟩ => ⟨S1024x1024, .f32⟩
  | .local .tc .vmem, ⟨10, _⟩ => ⟨S1x1024, .f32⟩
  | .local .tc .vmem, ⟨11, _⟩ => ⟨S1024x600, .f32⟩
  | .local .tc .vmem, ⟨12, _⟩ => ⟨S1x600, .f32⟩
  | .local .tc .vmem, ⟨13, _⟩ => ⟨S2048x600, .f32⟩
  | .local .tc .vmem, ⟨14, _⟩ => ⟨S2048x600, .f32⟩
  | .local .tc .vmem, ⟨15, _⟩ => ⟨S2048x1024, .f32⟩
  | .local .scVector .vmem, ⟨0, _⟩ => ⟨S5000, .f32⟩
  | .local .scVector .vmem, ⟨1, _⟩ => ⟨S5000, .i32⟩
  | .local .scVector .vmem, ⟨2, _⟩ => ⟨S128, .i32⟩
  | .local .scVector .vmem, ⟨3, _⟩ => ⟨S128, .i32⟩
  | .local .scVector .vmem, ⟨4, _⟩ => ⟨S128, .f32⟩
  | .local .scVector .vmem, ⟨5, _⟩ => ⟨S128, .i32⟩
  | _, _ => ⟨S4096x12544, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_arg1_scv : Ref sig .scVector := ⟨.hbm, 1, rfl⟩
abbrev main_arg2_scv : Ref sig .scVector := ⟨.hbm, 2, rfl⟩
abbrev main_v1_scv : Ref sig .scVector := ⟨.hbm, 11, rfl⟩
abbrev main_v3_scv : Ref sig .scVector := ⟨.hbm, 13, rfl⟩
abbrev main_v4_0_scv : Ref sig .scVector := ⟨.hbm, 14, rfl⟩
abbrev main_v4_1_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg9_1 : Ref sig .tc := ⟨.vmem, 14, rfl⟩
abbrev cc1_scratch0 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]

def k0_chk1 (v3 : IVec S16 32) : Prop :=
  (∀ a x, ((![v3] : Fin 1 → IVec S16 32) a x).toNat < S5000.size a)
theorem k0_idx1_inb : ∀ (v3 : IVec S16 32) (k0_hw1 : k0_chk1 v3), ∀ a x, ((![v3] : Fin 1 → IVec S16 32) a x).toNat < S5000.size a := fun v3 k0_hw1 => k0_hw1

def k0_chk2 (v4 : IVec S16 32) : Prop :=
  (∀ a x, ((![v4] : Fin 1 → IVec S16 32) a x).toNat < S5000.size a) ∧
  (∀ a x, ((![v4] : Fin 1 → IVec S16 32) a x).toNat < S5000.size a)
theorem k0_idx2_inb : ∀ (v4 : IVec S16 32) (k0_hw2 : k0_chk2 v4), ∀ a x, ((![v4] : Fin 1 → IVec S16 32) a x).toNat < S5000.size a := fun v4 k0_hw2 => k0_hw2.1
theorem k0_idx3_inb : ∀ (v4 : IVec S16 32) (k0_hw2 : k0_chk2 v4), ∀ a x, ((![v4] : Fin 1 → IVec S16 32) a x).toNat < S5000.size a := fun v4 k0_hw2 => k0_hw2.2

def k0_chk3 (v11 : IVec S16 32) : Prop :=
  (∀ a x, ((![v11] : Fin 1 → IVec S16 32) a x).toNat < S5000.size a)
theorem k0_idx4_inb : ∀ (v11 : IVec S16 32) (k0_hw3 : k0_chk3 v11), ∀ a x, ((![v11] : Fin 1 → IVec S16 32) a x).toNat < S5000.size a := fun v11 k0_hw3 => k0_hw3

def k0_chk4 (v12 : IVec S16 32) : Prop :=
  (∀ a x, ((![v12] : Fin 1 → IVec S16 32) a x).toNat < S5000.size a) ∧
  (∀ a x, ((![v12] : Fin 1 → IVec S16 32) a x).toNat < S5000.size a)
theorem k0_idx5_inb : ∀ (v12 : IVec S16 32) (k0_hw4 : k0_chk4 v12), ∀ a x, ((![v12] : Fin 1 → IVec S16 32) a x).toNat < S5000.size a := fun v12 k0_hw4 => k0_hw4.1
theorem k0_idx6_inb : ∀ (v12 : IVec S16 32) (k0_hw4 : k0_chk4 v12), ∀ a x, ((![v12] : Fin 1 → IVec S16 32) a x).toNat < S5000.size a := fun v12 k0_hw4 => k0_hw4.2

def k0_chk5 (v19 : IVec S16 32) : Prop :=
  (∀ a x, ((![v19] : Fin 1 → IVec S16 32) a x).toNat < S5000.size a)
theorem k0_idx7_inb : ∀ (v19 : IVec S16 32) (k0_hw5 : k0_chk5 v19), ∀ a x, ((![v19] : Fin 1 → IVec S16 32) a x).toNat < S5000.size a := fun v19 k0_hw5 => k0_hw5

def k0_chk6 (v20 : IVec S16 32) : Prop :=
  (∀ a x, ((![v20] : Fin 1 → IVec S16 32) a x).toNat < S5000.size a) ∧
  (∀ a x, ((![v20] : Fin 1 → IVec S16 32) a x).toNat < S5000.size a)
theorem k0_idx8_inb : ∀ (v20 : IVec S16 32) (k0_hw6 : k0_chk6 v20), ∀ a x, ((![v20] : Fin 1 → IVec S16 32) a x).toNat < S5000.size a := fun v20 k0_hw6 => k0_hw6.1
theorem k0_idx9_inb : ∀ (v20 : IVec S16 32) (k0_hw6 : k0_chk6 v20), ∀ a x, ((![v20] : Fin 1 → IVec S16 32) a x).toNat < S5000.size a := fun v20 k0_hw6 => k0_hw6.2

def k0_chk7 (v27 : IVec S16 32) : Prop :=
  (∀ a x, ((![v27] : Fin 1 → IVec S16 32) a x).toNat < S5000.size a)
theorem k0_idx10_inb : ∀ (v27 : IVec S16 32) (k0_hw7 : k0_chk7 v27), ∀ a x, ((![v27] : Fin 1 → IVec S16 32) a x).toNat < S5000.size a := fun v27 k0_hw7 => k0_hw7

def k0_chk8 (v28 : IVec S16 32) : Prop :=
  (∀ a x, ((![v28] : Fin 1 → IVec S16 32) a x).toNat < S5000.size a) ∧
  (∀ a x, ((![v28] : Fin 1 → IVec S16 32) a x).toNat < S5000.size a)
theorem k0_idx11_inb : ∀ (v28 : IVec S16 32) (k0_hw8 : k0_chk8 v28), ∀ a x, ((![v28] : Fin 1 → IVec S16 32) a x).toNat < S5000.size a := fun v28 k0_hw8 => k0_hw8.1
theorem k0_idx12_inb : ∀ (v28 : IVec S16 32) (k0_hw8 : k0_chk8 v28), ∀ a x, ((![v28] : Fin 1 → IVec S16 32) a x).toNat < S5000.size a := fun v28 k0_hw8 => k0_hw8.2

def k0_chk9 (v35 : IVec S16 32) : Prop :=
  (∀ a x, ((![v35] : Fin 1 → IVec S16 32) a x).toNat < S5000.size a)
theorem k0_idx13_inb : ∀ (v35 : IVec S16 32) (k0_hw9 : k0_chk9 v35), ∀ a x, ((![v35] : Fin 1 → IVec S16 32) a x).toNat < S5000.size a := fun v35 k0_hw9 => k0_hw9

def k0_chk10 (v36 : IVec S16 32) : Prop :=
  (∀ a x, ((![v36] : Fin 1 → IVec S16 32) a x).toNat < S5000.size a) ∧
  (∀ a x, ((![v36] : Fin 1 → IVec S16 32) a x).toNat < S5000.size a)
theorem k0_idx14_inb : ∀ (v36 : IVec S16 32) (k0_hw10 : k0_chk10 v36), ∀ a x, ((![v36] : Fin 1 → IVec S16 32) a x).toNat < S5000.size a := fun v36 k0_hw10 => k0_hw10.1
theorem k0_idx15_inb : ∀ (v36 : IVec S16 32) (k0_hw10 : k0_chk10 v36), ∀ a x, ((![v36] : Fin 1 → IVec S16 32) a x).toNat < S5000.size a := fun v36 k0_hw10 => k0_hw10.2

def k0_chk11 (v43 : IVec S16 32) : Prop :=
  (∀ a x, ((![v43] : Fin 1 → IVec S16 32) a x).toNat < S5000.size a)
theorem k0_idx16_inb : ∀ (v43 : IVec S16 32) (k0_hw11 : k0_chk11 v43), ∀ a x, ((![v43] : Fin 1 → IVec S16 32) a x).toNat < S5000.size a := fun v43 k0_hw11 => k0_hw11

def k0_chk12 (v44 : IVec S16 32) : Prop :=
  (∀ a x, ((![v44] : Fin 1 → IVec S16 32) a x).toNat < S5000.size a) ∧
  (∀ a x, ((![v44] : Fin 1 → IVec S16 32) a x).toNat < S5000.size a)
theorem k0_idx17_inb : ∀ (v44 : IVec S16 32) (k0_hw12 : k0_chk12 v44), ∀ a x, ((![v44] : Fin 1 → IVec S16 32) a x).toNat < S5000.size a := fun v44 k0_hw12 => k0_hw12.1
theorem k0_idx18_inb : ∀ (v44 : IVec S16 32) (k0_hw12 : k0_chk12 v44), ∀ a x, ((![v44] : Fin 1 → IVec S16 32) a x).toNat < S5000.size a := fun v44 k0_hw12 => k0_hw12.2

def k0_chk13 (v51 : IVec S16 32) : Prop :=
  (∀ a x, ((![v51] : Fin 1 → IVec S16 32) a x).toNat < S5000.size a)
theorem k0_idx19_inb : ∀ (v51 : IVec S16 32) (k0_hw13 : k0_chk13 v51), ∀ a x, ((![v51] : Fin 1 → IVec S16 32) a x).toNat < S5000.size a := fun v51 k0_hw13 => k0_hw13

def k0_chk14 (v52 : IVec S16 32) : Prop :=
  (∀ a x, ((![v52] : Fin 1 → IVec S16 32) a x).toNat < S5000.size a) ∧
  (∀ a x, ((![v52] : Fin 1 → IVec S16 32) a x).toNat < S5000.size a)
theorem k0_idx20_inb : ∀ (v52 : IVec S16 32) (k0_hw14 : k0_chk14 v52), ∀ a x, ((![v52] : Fin 1 → IVec S16 32) a x).toNat < S5000.size a := fun v52 k0_hw14 => k0_hw14.1
theorem k0_idx21_inb : ∀ (v52 : IVec S16 32) (k0_hw14 : k0_chk14 v52), ∀ a x, ((![v52] : Fin 1 → IVec S16 32) a x).toNat < S5000.size a := fun v52 k0_hw14 => k0_hw14.2

def k0_chk15 (v59 : IVec S16 32) : Prop :=
  (∀ a x, ((![v59] : Fin 1 → IVec S16 32) a x).toNat < S5000.size a)
theorem k0_idx22_inb : ∀ (v59 : IVec S16 32) (k0_hw15 : k0_chk15 v59), ∀ a x, ((![v59] : Fin 1 → IVec S16 32) a x).toNat < S5000.size a := fun v59 k0_hw15 => k0_hw15

def k0_chk16 (v60 : IVec S16 32) : Prop :=
  (∀ a x, ((![v60] : Fin 1 → IVec S16 32) a x).toNat < S5000.size a) ∧
  (∀ a x, ((![v60] : Fin 1 → IVec S16 32) a x).toNat < S5000.size a)
theorem k0_idx23_inb : ∀ (v60 : IVec S16 32) (k0_hw16 : k0_chk16 v60), ∀ a x, ((![v60] : Fin 1 → IVec S16 32) a x).toNat < S5000.size a := fun v60 k0_hw16 => k0_hw16.1
theorem k0_idx24_inb : ∀ (v60 : IVec S16 32) (k0_hw16 : k0_chk16 v60), ∀ a x, ((![v60] : Fin 1 → IVec S16 32) a x).toNat < S5000.size a := fun v60 k0_hw16 => k0_hw16.2
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev grid1 : Pipeline.Grid := ⟨2, ![2, 14], ![false, false]⟩

def k1_cond3 (i : grid1.Coords) : BitVec 1 :=
  let arg1 : BitVec 32 := BitVec.ofNat 32 (i 1).val
  let c13_i32 : BitVec 32 := 13#32
  let v11 : BitVec 1 := Scalar.cmpi .eq arg1 c13_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x896 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S896x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x600 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x600 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S2048x600 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x12544 : Shape := ⟨2, ![4096, 12544]⟩
abbrev S5000 : Shape := ⟨1, ![5000]⟩
abbrev S4096x2 : Shape := ⟨2, ![4096, 2]⟩
abbrev S12544x1024 : Shape := ⟨2, ![12544, 1024]⟩
abbrev S1024 : Shape := ⟨1, ![1024]⟩
abbrev S1024x1024 : Shape := ⟨2, ![1024, 1024]⟩
abbrev S1024x600 : Shape := ⟨2, ![1024, 600]⟩
abbrev S600 : Shape := ⟨1, ![600]⟩
abbrev S4096x1024 : Shape := ⟨2, ![4096, 1024]⟩
abbrev S1x1024 : Shape := ⟨2, ![1, 1024]⟩
abbrev S_ : Shape := ⟨0, ![]⟩
abbrev S4096x600 : Shape := ⟨2, ![4096, 600]⟩
abbrev S1x600 : Shape := ⟨2, ![1, 600]⟩
abbrev S4096x1 : Shape := ⟨2, ![4096, 1]⟩
abbrev S4096 : Shape := ⟨1, ![4096]⟩
abbrev S1 : Shape := ⟨1, ![1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S4096x12544, .f32⟩
  | 1 => ⟨S5000, .f32⟩
  | 2 => ⟨S5000, .i32⟩
  | 3 => ⟨S4096x2, .i32⟩
  | 4 => ⟨S12544x1024, .f32⟩
  | 5 => ⟨S1024, .f32⟩
  | 6 => ⟨S1024x1024, .f32⟩
  | 7 => ⟨S1024, .f32⟩
  | 8 => ⟨S1024x600, .f32⟩
  | 9 => ⟨S600, .f32⟩
  | 10 => ⟨S4096x1024, .f32⟩
  | 11 => ⟨S1x1024, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S4096x1024, .f32⟩
  | 18 => ⟨S1x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x600, .f32⟩
  | 25 => ⟨S1x600, .f32⟩
  | 26 => ⟨S4096x600, .f32⟩
  | 27 => ⟨S4096x600, .f32⟩
  | 28 => ⟨S4096x1, .i32⟩
  | 29 => ⟨S4096, .i32⟩
  | 30 => ⟨S4096x1, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S1, .i32⟩
  | 41 => ⟨S_, .i32⟩
  | 42 => ⟨S4096x1, .i32⟩
  | 43 => ⟨S4096x1, .i1⟩
  | 44 => ⟨S1x1, .i32⟩
  | 45 => ⟨S4096x1, .i32⟩
  | 46 => ⟨S4096x1, .i1⟩
  | 47 => ⟨S4096x1, .i1⟩
  | 48 => ⟨S_, .i1⟩
  | 49 => ⟨S4096, .i1⟩
  | 50 => ⟨S4096, .f32⟩
  | 51 => ⟨S_, .f32⟩
  | 52 => ⟨S4096, .f32⟩
  | 53 => ⟨S4096, .f32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S1, .i32⟩
  | 63 => ⟨S_, .i32⟩
  | 64 => ⟨S4096x1, .i32⟩
  | 65 => ⟨S4096x1, .i1⟩
  | 66 => ⟨S1x1, .i32⟩
  | 67 => ⟨S4096x1, .i32⟩
  | 68 => ⟨S4096x1, .i1⟩
  | 69 => ⟨S4096x1, .i1⟩
  | 70 => ⟨S_, .i1⟩
  | 71 => ⟨S4096, .i1⟩
  | 72 => ⟨S4096, .f32⟩
  | 73 => ⟨S_, .f32⟩
  | 74 => ⟨S4096, .f32⟩
  | 75 => ⟨S4096, .f32⟩
  | 76 => ⟨S4096, .f32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S1, .i32⟩
  | 86 => ⟨S_, .i32⟩
  | 87 => ⟨S4096x1, .i32⟩
  | 88 => ⟨S4096x1, .i1⟩
  | 89 => ⟨S1x1, .i32⟩
  | 90 => ⟨S4096x1, .i32⟩
  | 91 => ⟨S4096x1, .i1⟩
  | 92 => ⟨S4096x1, .i1⟩
  | 93 => ⟨S_, .i1⟩
  | 94 => ⟨S4096, .i1⟩
  | 95 => ⟨S4096, .i32⟩
  | 96 => ⟨S_, .i32⟩
  | 97 => ⟨S4096, .i32⟩
  | 98 => ⟨S4096, .i32⟩
  | 99 => ⟨S_, .f32⟩
  | 100 => ⟨S4096x600, .f32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S4096x1, .i32⟩
  | 118 => ⟨S4096x2, .i32⟩
  | 119 => ⟨S4096x600, .f32⟩
  | 120 => ⟨S4096x600, .f32⟩
  | 121 => ⟨S4096x600, .f32⟩
  | 122 => ⟨S_, .f32⟩
  | 123 => ⟨S4096x600, .f32⟩
  | 124 => ⟨S4096x600, .f32⟩
  | 125 => ⟨S_, .f32⟩
  | 126 => ⟨S4096x600, .f32⟩
  | 127 => ⟨S4096x600, .f32⟩
  | _ => ⟨S4096x12544, .f32⟩

abbrev hbmTy0_1 (i : Nat) : BufTy := match i % 128 with
  | 0 => ⟨S4096x600, .f32⟩
  | _ => ⟨S4096x12544, .f32⟩

abbrev hbmTy (i : Nat) : BufTy := match i / 128 with
  | 0 => hbmTy0_0 i
  | 1 => hbmTy0_1 i
  | _ => ⟨S4096x12544, .f32⟩

abbrev bufTy : (tb : Table) → Fin (tcTables nBuf tb) → BufTy
  | .hbm, ⟨i, _⟩ => hbmTy i
  | _, _ => ⟨S4096x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v18 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_cst : Ref sig .tc := ⟨.hbm, 73, rfl⟩
abbrev main_call3_v14 : Ref sig .tc := ⟨.hbm, 74, rfl⟩
abbrev main_v19 : Ref sig .tc := ⟨.hbm, 75, rfl⟩
abbrev main_v20 : Ref sig .tc := ⟨.hbm, 76, rfl⟩
abbrev main_call4_c : Ref sig .tc := ⟨.hbm, 77, rfl⟩
abbrev main_call4_v0 : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_c_1 : Ref sig .tc := ⟨.hbm, 85, rfl⟩
abbrev main_call4_c_2 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_3 : Ref sig .tc := ⟨.hbm, 93, rfl⟩
abbrev main_call4_v12 : Ref sig .tc := ⟨.hbm, 94, rfl⟩
abbrev main_call4_v13 : Ref sig .tc := ⟨.hbm, 95, rfl⟩
abbrev main_call4_c_4 : Ref sig .tc := ⟨.hbm, 96, rfl⟩
abbrev main_call4_v14 : Ref sig .tc := ⟨.hbm, 97, rfl⟩
abbrev main_v21 : Ref sig .tc := ⟨.hbm, 98, rfl⟩
abbrev main_cst : Ref sig .tc := ⟨.hbm, 99, rfl⟩
abbrev main_v22 : Ref sig .tc := ⟨.hbm, 100, rfl⟩
abbrev main_v23 : Ref sig .tc := ⟨.hbm, 101, rfl⟩
abbrev main_c : Ref sig .tc := ⟨.hbm, 102, rfl⟩
abbrev main_v24 : Ref sig .tc := ⟨.hbm, 103, rfl⟩
abbrev main_v25 : Ref sig .tc := ⟨.hbm, 104, rfl⟩
abbrev main_c_0 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_c_1 : Ref sig .tc := ⟨.hbm, 109, rfl⟩
abbrev main_v29 : Ref sig .tc := ⟨.hbm, 110, rfl⟩
abbrev main_v30 : Ref sig .tc := ⟨.hbm, 111, rfl⟩
abbrev main_c_2 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_cst_3 : Ref sig .tc := ⟨.hbm, 122, rfl⟩
abbrev main_v40 : Ref sig .tc := ⟨.hbm, 123, rfl⟩
abbrev main_v41 : Ref sig .tc := ⟨.hbm, 124, rfl⟩
abbrev main_cst_4 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩

abbrev nD : Nat := 1
abbrev τ : Topo := Topo.v7x

variable {F : FTy → Type} [FloatOps F]
-- ==== Proof.Common.lean ====
/-
  The set-up every part of the run shares: the program as the SparseCore launch theorem sees it, the ghost state it is
  proved over (the handshakes' rounds, the pipeline's rounds, the copies' counters), the arrays' locations, and what
  each tile's task is handed and brings back. The 32 tasks are numbered `2 * tile + SparseCore`; task `k` owns rows
  `128 k … 128 k + 127` of the two index arrays and of the two result arrays, and one read share of each table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_in_range

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds, the middle component of the ghost state. -/
abbrev EP : Emb UP (MT nD τ sig (HIx 1) (Elt F) ℕ UU ℕ) := (Emb.inl : Emb UP (UP × Counters)).trans embR

/-! ## The arrays -/

variable (m : (ℓ : Loc nD τ sig) → Buf (Elt F) ℓ) (ρ : Dev nD → PrngReg)

abbrev sLoc (d : Dev nD) : Loc nD τ sig := (SparseCore.T d).loc main_arg1
abbrev lLoc (d : Dev nD) : Loc nD τ sig := (SparseCore.T d).loc main_arg2
abbrev hLoc (d : Dev nD) : Loc nD τ sig := (SparseCore.T d).loc main_v1
abbrev oLoc (d : Dev nD) : Loc nD τ sig := (SparseCore.T d).loc main_v3
abbrev pLoc (d : Dev nD) : Loc nD τ sig := (SparseCore.T d).loc main_v4_0
abbrev cLoc (d : Dev nD) : Loc nD τ sig := (SparseCore.T d).loc main_v4_1

/-! ## The tasks' rows and shares -/

theorem rdiv : 32 ∣ S4096.size 0 := ⟨128, rfl⟩
/-- Rows `128 k … 128 k + 127` of an array of 4096. -/
abbrev row (k : Fin 32) : Rect S4096 := Rect.part (s := S4096) (a₀ := 0) rdiv k
abbrev rowSet (k : Fin 32) : Finset S4096.Idx := (row k).set
/-- The number of the task on tile `i` of SparseCore `c`. -/
abbrev tk (c : Fin 2) (i : Fin 16) : Fin 32 := ⟨2 * i.val + c.val, by omega⟩
/-- Task `k`'s read share of a table every tile reads. -/
abbrev rsh (k : Fin 32) : PosShare TreeShare := Transfers.shareTokN fullShare k.val

/-- A word as a position in a table of 5000. -/
def at5000 (v : BitVec 32) : S5000.Idx := fun a => ⟨v.toNat % 5000, (Nat.mod_lt _ (by decide)).trans_eq (match a with | 0 => rfl)⟩

variable [FloatOps F]

variable (hI oI : Dev nD → S4096.Idx → BitVec 32)

/-- The product of the paired scores, at every pair. -/
def prodAll (d : Dev nD) : Buf (Elt F) (pLoc d) :=
  (mulf (fun j => m (sLoc d) (at5000 (hI d j))) (fun j => m (sLoc d) (at5000 (oI d j))) : FVec F S4096 .f32)
/-- The paired object's label, at every pair. -/
def clsAll (d : Dev nD) : Buf (Elt F) (cLoc d) := (fun j => m (lLoc d) (at5000 (oI d j)) : S4096.Idx → BitVec 32)

/-- What task `k` is handed: its read shares of the two tables, its rows of the index arrays and of the results; -/
def goK (d : Dev nD) (k : Fin 32) : sProp 𝕄 :=
  iprop((sLoc d ↦{rsh k} m (sLoc d)) ∗ (lLoc d ↦{rsh k} m (lLoc d)) ∗ (hLoc d ↦[rowSet k]{fullShare} (hI d : Buf (Elt F) (hLoc d)))
    ∗ (oLoc d ↦[rowSet k]{fullShare} (oI d : Buf (Elt F) (oLoc d))) ∗ (pLoc d ↦[rowSet k]{fullShare} m (pLoc d)) ∗ cLoc d ↦[rowSet k]{fullShare} m (cLoc d))
/-- and what it brings back: the same, its rows of the results now holding the products and the labels. -/
def tdK (d : Dev nD) (k : Fin 32) : sProp 𝕄 :=
  iprop((sLoc d ↦{rsh k} m (sLoc d)) ∗ (lLoc d ↦{rsh k} m (lLoc d)) ∗ (hLoc d ↦[rowSet k]{fullShare} (hI d : Buf (Elt F) (hLoc d)))
    ∗ (oLoc d ↦[rowSet k]{fullShare} (oI d : Buf (Elt F) (oLoc d))) ∗ (pLoc d ↦[rowSet k]{fullShare} prodAll m hI oI d) ∗ cLoc d ↦[rowSet k]{fullShare} clsAll m oI d)

instance goK_storable (d : Dev nD) (k : Fin 32) : BI.Storable (upEmb : UEmb _ 𝕄) (goK m hI oI d k) := by unfold goK; infer_instance
instance tdK_storable (d : Dev nD) (k : Fin 32) : BI.Storable (upEmb : UEmb _ 𝕄) (tdK m hI oI d k) := by unfold tdK; infer_instance

/-- The one call's handshakes: each SparseCore is handed its sixteen tasks' resources, each tile its own. -/
def P : (K (F := F)).Pay (nD := nD) (Val := Elt F) (Name := ℕ) (U := UU) where
  st := fun q d c => match q with | 0 => bigSep Finset.univ fun i : Fin 16 => goK m hI oI d (tk (Fin.cast nCore_zero c) i)
  dn := fun q d c => match q with | 0 => bigSep Finset.univ fun i : Fin 16 => tdK m hI oI d (tk (Fin.cast nCore_zero c) i)
  go := fun q d c i => match q with | 0 => goK m hI oI d (tk (Fin.cast nCore_zero c) (Fin.cast nSub_zero i))
  td := fun q d c i => match q with | 0 => tdK m hI oI d (tk (Fin.cast nCore_zero c) (Fin.cast nSub_zero i))
  x := fun _ _ => iprop(emp)

instance P_storable : (P (F := F) m hI oI).IsStorable where
  st q d c := match q with
    | 0 => (inferInstance : BI.Storable (upEmb : UEmb _ 𝕄) (bigSep Finset.univ fun i : Fin 16 => goK m hI oI d (tk (Fin.cast nCore_zero c) i)))
  dn q d c := match q with
    | 0 => (inferInstance : BI.Storable (upEmb : UEmb _ 𝕄) (bigSep Finset.univ fun i : Fin 16 => tdK m hI oI d (tk (Fin.cast nCore_zero c) i)))
  go q d c i := match q with | 0 => goK_storable m hI oI d _
  td q d c i := match q with | 0 => tdK_storable m hI oI d _

/-- What the proof asks of the index arrays: every word names a row of the tables. -/
def PreOK : Prop := ∀ (d : Dev nD) (j : S4096.Idx), (hI d j).toNat < 5000 ∧ (oI d j).toNat < 5000

end Cert.Proof.Run

end
-- ==== Proof.Body.lean ====
/-
  The perceptron's body on one grid point, on any staging buffers: at the first of a row of points it stores the product of
  its two blocks in the accumulator, at a later one it adds it there, and at the last it moreover leaves the block of
  results, computed 256 rows at a time from the accumulator.
-/
module

public import proofs.«01_k».proof.Proof.Common
public import Idealize.ShloMosaic.Lib.Pipeline.FrameBody
public import Idealize.ShloMosaic.Lib.Ring
public import Idealize.ShloMosaic.Lib.VecWindow
public import Idealize.ShloMosaic.Lib.WholeRead
public import Idealize.ShloMosaic.Lib.WordCmp

@[expose] public section

set_option maxRecDepth 16384

noncomputable section

namespace Cert.Proof.Run

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The block of results -/

/-- Rows `256 k … 256 k + 255` of an array of 2048 rows. -/
def rowsOf {e : EltTy} {n : ℕ} (k : ℕ) (x : Vec F ⟨2, ![2048, n]⟩ e) : Vec F ⟨2, ![256, n]⟩ e :=
  fun y => x (fun | 0 => ⟨(256 * k + (y 0).val) % 2048, Nat.mod_lt _ (by decide)⟩ | 1 => y 1)

/-- A block's row and column among its 256 rows. -/
def inChunk (y : S2048x600.Idx) : S256x600.Idx := fun | 0 => ⟨(y 0).val % 256, Nat.mod_lt _ (by decide)⟩ | 1 => y 1

/-- The block of results from the accumulator `acc`: each run of 256 rows is one evaluation of the last two layers. -/
def outBlk (x0 : Vec F S2048x1 .f32) (x1 : Vec F S2048x1 .i32) (acc : Vec F S2048x1024 .f32) (x4 : Vec F S1x1024 .f32) (x5 : Vec F S1024x1024 .f32)
    (x6 : Vec F S1x1024 .f32) (x7 : Vec F S1024x600 .f32) (x8 : Vec F S1x600 .f32) : Vec F S2048x600 .f32 := fun y =>
  k1_pay7 x5 x7 (rowsOf ((y 0).val / 256) acc) x4 x6 x8 (rowsOf ((y 0).val / 256) x1) (rowsOf ((y 0).val / 256) x0) (inChunk y)

/-- A load of 256 rows from row `256 k` reads those rows of what the view reads. -/
theorem readAt_rows {κ : Kind} {sp : Space} {n : ℕ} {e : EltTy} (v : View sig κ sp ⟨2, ![2048, n]⟩ e) (f : v.ty.Contents (Elt F)) (k : ℕ) (hk : k < 8)
    {off : Fin 2 → ℕ} (h0 : off 0 = 256 * k) (h1 : off 1 = 0) (inb : ∀ a, off a + (![256, n] : Fin 2 → ℕ) a ≤ (⟨2, ![2048, n]⟩ : Shape).size a) :
    v.readAt (Elt F) (Rect.unit (s := ⟨2, ![2048, n]⟩) off ![256, n] inb).toLoadRect f = rowsOf k (v.read (Elt F) f) := by
  funext y
  refine congrArg (v.read (Elt F) f) (funext fun a => Fin.ext ?_)
  match a with
  | 0 =>
    show off 0 + 1 * (y 0).val = (256 * k + (y 0).val) % 2048
    have : (y 0).val < 256 := (y 0).isLt
    omega
  | 1 => show off 1 + 1 * (y 1).val = (y 1).val; omega

/-- One run of 256 rows stored in the block of results: if the payload is the last two layers' value of those rows, it is the block's there. -/
theorem outBlk_piece (x0 : Vec F S2048x1 .f32) (x1 : Vec F S2048x1 .i32) (acc : Vec F S2048x1024 .f32) (x4 : Vec F S1x1024 .f32) (x5 : Vec F S1024x1024 .f32)
    (x6 : Vec F S1x1024 .f32) (x7 : Vec F S1024x600 .f32) (x8 : Vec F S1x600 .f32) (k : ℕ) (hk : k < 8)
    {off : Fin 2 → ℕ} (h0 : off 0 = 256 * k) (h1 : off 1 = 0) (inb : ∀ a, off a + S256x600.size a ≤ S2048x600.size a)
    {w5 w7 w4 w6 w8 wa w1 w0} (p : FVec F S256x600 .f32) (hp : p = k1_pay7 w5 w7 wa w4 w6 w8 w1 w0)
    (e5 : w5 = x5) (e7 : w7 = x7) (ea : wa = rowsOf k acc) (e4 : w4 = x4) (e6 : w6 = x6) (e8 : w8 = x8) (e1 : w1 = rowsOf k x1) (e0 : w0 = rowsOf k x0) :
    ∀ x : (Rect.unit (s := S2048x600) off S256x600.size inb).shape.Idx, p x = outBlk x0 x1 acc x4 x5 x6 x7 x8 ((Rect.unit (s := S2048x600) off S256x600.size inb).emb x) := by
  intro x
  have hx : (x 0).val < 256 := (x 0).isLt
  have r0 : ((Rect.unit (s := S2048x600) off S256x600.size inb).emb x 0).val = 256 * k + (x 0).val := by
    show off 0 + 1 * (x 0).val = _; omega
  have r1 : ((Rect.unit (s := S2048x600) off S256x600.size inb).emb x 1).val = (x 1).val := by
    show off 1 + 1 * (x 1).val = _; omega
  have hq : ((Rect.unit (s := S2048x600) off S256x600.size inb).emb x 0).val / 256 = k := by omega
  have hi : inChunk ((Rect.unit (s := S2048x600) off S256x600.size inb).emb x) = x := funext fun a => Fin.ext (by
    match a with
    | 0 => show ((Rect.unit (s := S2048x600) off S256x600.size inb).emb x 0).val % 256 = (x 0).val; omega
    | 1 => exact r1)
  unfold outBlk
  rw [hq, hi, hp, e5, e7, ea, e4, e6, e8, e1, e0]

/-! ## The body's conditions -/

/-- The point is the first of its row. -/
abbrev isFirst (i : grid1.Coords) : Prop := (Scalar.cmpi .ne (Scalar.extui (Scalar.cmpi .eq (BitVec.ofNat 32 (i 1).val) 0#32)) 0#32) = 1#1
/-- The point is not the first of its row. -/
abbrev isLater (i : grid1.Coords) : Prop := (Scalar.cmpi .ne (Scalar.extui (Scalar.cmpi .sgt (BitVec.ofNat 32 (i 1).val) 0#32)) 0#32) = 1#1
/-- The point is the last of its row. -/
abbrev isLast (i : grid1.Coords) : Prop := k1_cond3 i = 1#1

theorem isFirst_iff : ∀ t : Fin grid1.N, isFirst (grid1.coords t) ↔ t.val % 14 = 0 := by decide +kernel
theorem isLater_iff : ∀ t : Fin grid1.N, isLater (grid1.coords t) ↔ 1 ≤ t.val % 14 := by decide +kernel
theorem isLast_iff : ∀ t : Fin grid1.N, isLast (grid1.coords t) ↔ t.val % 14 = 13 := by decide +kernel

/-! ## The three runs -/

section Runs

variable (c : Dev nD) (i : grid1.Coords)
  (arg2 : Memref sig .tc .vmem S2048x1 .f32) (harg2 : arg2.IsWhole) (arg3 : Memref sig .tc .vmem S2048x1 .i32) (harg3 : arg3.IsWhole)
  (arg4 : Memref sig .tc .vmem S2048x896 .f32) (harg4 : arg4.IsWhole) (arg5 : Memref sig .tc .vmem S896x1024 .f32) (harg5 : arg5.IsWhole)
  (arg6 : Memref sig .tc .vmem S1x1024 .f32) (harg6 : arg6.IsWhole) (arg7 : Memref sig .tc .vmem S1024x1024 .f32) (harg7 : arg7.IsWhole)
  (arg8 : Memref sig .tc .vmem S1x1024 .f32) (harg8 : arg8.IsWhole) (arg9 : Memref sig .tc .vmem S1024x600 .f32) (harg9 : arg9.IsWhole)
  (arg10 : Memref sig .tc .vmem S1x600 .f32) (harg10 : arg10.IsWhole) (arg11 : Memref sig .tc .vmem S2048x600 .f32) (harg11 : arg11.IsWhole)
  (arg12 : Memref sig .tc .vmem S2048x1024 .f32) (harg12 : arg12.IsWhole)
  (x2 : Vec F S2048x896 .f32) (x3 : Vec F S896x1024 .f32) (acc : Vec F S2048x1024 .f32)

set_option maxHeartbeats 1000000 in
/-- The first point of a row: the accumulator, whatever it held, ends at the product of the point's two blocks. -/
theorem run_first (h1 : isFirst i) (h2 : ¬isLater i) (h3 : ¬isLast i) (E : Set ℕ) (Q : PUnit → sProp 𝕄) :
    iprop(owns (c : Thread nD τ) arg4 fullShare x2 ∗ owns (c : Thread nD τ) arg5 fullShare x3 ∗ (∃ a, owns (c : Thread nD τ) arg12 fullShare a)
        ∗ (iprop(owns (c : Thread nD τ) arg4 fullShare x2 ∗ owns (c : Thread nD τ) arg5 fullShare x3 ∗ owns (c : Thread nD τ) arg12 fullShare (k1_pay2 x2 x3)) -∗ Q ⟨⟩))
      ⊢ wp frame (wpE (defs₀ (F := F)) 𝒱₀ c none) E (cc1__mlp_body (F := F) i arg2 harg2 arg3 harg3 arg4 harg4 arg5 harg5 arg6 harg6 arg7 harg7 arg8 harg8 arg9 harg9 arg10 harg10 arg11 harg11 arg12 harg12) Q := by
  simp only [cc1__mlp_body_eq_skeleton]; unfold cc1__mlp_body_skel
  unfold owns
  iintro ⟨⟨%f2, %hf2, H2⟩, ⟨%f3, %hf3, H3⟩, ⟨%a, %fs, -, HS⟩, Hk⟩
  sl_exec (disch := first | sl_exact h1 | sl_exact h2 | sl_exact h3)
  sl_step
  iapply Hk
  isplitl [H2]
  · iexists _; isplitr; · ipureintro; exact hf2
    iexact H2
  isplitl [H3]
  · iexists _; isplitr; · ipureintro; exact hf3
    iexact H3
  iexists _; isplitr; swap; · iexact HS
  ipureintro
  refine (View.read_writes_full arg12.view fs _ _ _).trans ?_
  rw [View.readAt_full, View.readAt_full, hf2, hf3]

set_option maxHeartbeats 1000000 in
/-- A middle point: the accumulator ends at what it held plus the product of the point's two blocks. -/
theorem run_mid (h1 : ¬isFirst i) (h2 : isLater i) (h3 : ¬isLast i) (E : Set ℕ) (Q : PUnit → sProp 𝕄) :
    iprop(owns (c : Thread nD τ) arg4 fullShare x2 ∗ owns (c : Thread nD τ) arg5 fullShare x3 ∗ owns (c : Thread nD τ) arg12 fullShare acc
        ∗ (iprop(owns (c : Thread nD τ) arg4 fullShare x2 ∗ owns (c : Thread nD τ) arg5 fullShare x3 ∗ owns (c : Thread nD τ) arg12 fullShare (k1_pay3 x2 x3 acc)) -∗ Q ⟨⟩))
      ⊢ wp frame (wpE (defs₀ (F := F)) 𝒱₀ c none) E (cc1__mlp_body (F := F) i arg2 harg2 arg3 harg3 arg4 harg4 arg5 harg5 arg6 harg6 arg7 harg7 arg8 harg8 arg9 harg9 arg10 harg10 arg11 harg11 arg12 harg12) Q := by
  simp only [cc1__mlp_body_eq_skeleton]; unfold cc1__mlp_body_skel
  unfold owns
  iintro ⟨⟨%f2, %hf2, H2⟩, ⟨%f3, %hf3, H3⟩, ⟨%fs, %hfs, HS⟩, Hk⟩
  sl_exec (disch := first | sl_exact h1 | sl_exact h2 | sl_exact h3)
  sl_step
  iapply Hk
  isplitl [H2]
  · iexists _; isplitr; · ipureintro; exact hf2
    iexact H2
  isplitl [H3]
  · iexists _; isplitr; · ipureintro; exact hf3
    iexact H3
  iexists _; isplitr; swap; · iexact HS
  ipureintro
  refine (View.read_writes_full arg12.view fs _ _ _).trans ?_
  rw [View.readAt_full, View.readAt_full, View.readAt_full, hf2, hf3, hfs]

variable (x0 : Vec F S2048x1 .f32) (x1 : Vec F S2048x1 .i32) (x4 : Vec F S1x1024 .f32) (x5 : Vec F S1024x1024 .f32)
  (x6 : Vec F S1x1024 .f32) (x7 : Vec F S1024x600 .f32) (x8 : Vec F S1x600 .f32)

set_option maxHeartbeats 2000000 in
/-- The last point of a row: the accumulator ends as at a middle point, and the block of results, whatever it held, ends at
    the value computed from that accumulator. -/
theorem run_last (h1 : ¬isFirst i) (h2 : isLater i) (h3 : isLast i) (E : Set ℕ) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare x6
        ∗ owns (c : Thread nD τ) arg9 fullShare x7 ∗ owns (c : Thread nD τ) arg10 fullShare x8 ∗ (∃ a, owns (c : Thread nD τ) arg11 fullShare a) ∗ owns (c : Thread nD τ) arg12 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6
            ∗ owns (c : Thread nD τ) arg9 fullShare x7 ∗ owns (c : Thread nD τ) arg10 fullShare x8
            ∗ owns (c : Thread nD τ) arg11 fullShare (outBlk x0 x1 (k1_pay3 x2 x3 acc) x4 x5 x6 x7 x8) ∗ owns (c : Thread nD τ) arg12 fullShare (k1_pay3 x2 x3 acc)) -∗ Q ⟨⟩))
      ⊢ wp frame (wpE (defs₀ (F := F)) 𝒱₀ c none) E (cc1__mlp_body (F := F) i arg2 harg2 arg3 harg3 arg4 harg4 arg5 harg5 arg6 harg6 arg7 harg7 arg8 harg8 arg9 harg9 arg10 harg10 arg11 harg11 arg12 harg12) Q := by
  simp only [cc1__mlp_body_eq_skeleton]; unfold cc1__mlp_body_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%a, %f9, -, H9⟩, ⟨%fs, %hfs, HS⟩, Hk⟩
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; swap; · iexact H9
    ipureintro
    subst hf0 hf1 hf2 hf3 hf4 hf5 hf6 hf7 hf8 hfs
    have ha : ∀ (k : ℕ) (hk : k < 8) {off : Fin 2 → ℕ} (h0 : off 0 = 256 * k) (h1 : off 1 = 0) (inb : ∀ a, off a + S256x1024.size a ≤ S2048x1024.size a),
        arg12.view.readCov (run_last.sl.HS_1 c arg4 arg5 arg12 f2 f3 fs) (Rect.unit (s := S2048x1024) off S256x1024.size inb).toLoadRect
          = rowsOf k (k1_pay3 (arg4.view.read (Elt F) f2) (arg5.view.read (Elt F) f3) (arg12.view.read (Elt F) fs)) := by
      intro k hk off h0 h1 inb
      refine (readAt_rows arg12.view _ k hk h0 h1 inb).trans (congrArg (rowsOf k) ?_)
      refine (View.read_writes_full arg12.view _ _ _ _).trans ?_
      rw [View.readAt_full, View.readAt_full, View.readAt_full]
    have piece : ∀ (k : ℕ) (hk : k < 8) (off : Fin 2 → ℕ) (h0 : off 0 = 256 * k) (h1 : off 1 = 0) (i1 : ∀ a, off a + S256x600.size a ≤ S2048x600.size a)
        (i2 : ∀ a, off a + S256x1024.size a ≤ S2048x1024.size a) (i3 : ∀ a, off a + S256x1.size a ≤ S2048x1.size a) (p : FVec F S256x600 .f32)
        (hp : p = k1_pay7 (View.readAt (Elt F) arg7.view (Rect.unit ![0, 0] S1024x1024.size inb_S1024x1024_S1024x1024_0_0).toLoadRect f5)
          (View.readAt (Elt F) arg9.view (Rect.unit ![0, 0] S1024x600.size inb_S1024x600_S1024x600_0_0).toLoadRect f7)
          (arg12.view.readCov (run_last.sl.HS_1 c arg4 arg5 arg12 f2 f3 fs) (Rect.unit (s := S2048x1024) off S256x1024.size i2).toLoadRect)
          (View.readAt (Elt F) arg6.view (Rect.unit ![0, 0] S1x1024.size inb_S1x1024_S1x1024_0_0).toLoadRect f4)
          (View.readAt (Elt F) arg8.view (Rect.unit ![0, 0] S1x1024.size inb_S1x1024_S1x1024_0_0).toLoadRect f6)
          (View.readAt (Elt F) arg10.view (Rect.unit ![0, 0] S1x600.size inb_S1x600_S1x600_0_0).toLoadRect f8)
          (View.readAt (Elt F) arg3.view (Rect.unit (s := S2048x1) off S256x1.size i3).toLoadRect f1)
          (View.readAt (Elt F) arg2.view (Rect.unit (s := S2048x1) off S256x1.size i3).toLoadRect f0)),
        ∀ x : (Rect.unit (s := S2048x600) off S256x600.size i1).shape.Idx,
          p x = outBlk (arg2.view.read (Elt F) f0) (arg3.view.read (Elt F) f1) (k1_pay3 (arg4.view.read (Elt F) f2) (arg5.view.read (Elt F) f3) (arg12.view.read (Elt F) fs))
            (arg6.view.read (Elt F) f4) (arg7.view.read (Elt F) f5) (arg8.view.read (Elt F) f6) (arg9.view.read (Elt F) f7) (arg10.view.read (Elt F) f8)
            ((Rect.unit (s := S2048x600) off S256x600.size i1).emb x) := fun k hk off h0 h1 i1 i2 i3 p hp =>
      outBlk_piece _ _ _ _ _ _ _ _ k hk h0 h1 i1 p hp (View.readAt_full _ _ _) (View.readAt_full _ _ _) (ha k hk h0 h1 i2) (View.readAt_full _ _ _)
        (View.readAt_full _ _ _) (View.readAt_full _ _ _) (readAt_rows arg3.view f1 k hk h0 h1 i3) (readAt_rows arg2.view f0 k hk h0 h1 i3)
    funext y
    refine View.read_writes_apply_of_pieces arg11.view f9 (outBlk _ _ _ _ _ _ _ _) _ ?_ y (View.cover_of_tiledL (s := S2048x600) _ (![256, 600] : Fin 2 → ℕ) (by sl_kernel_rfl) y)
    intro p hp x
    fin_cases hp
    · exact piece 7 (by decide) ![1792, 0] rfl rfl inb_S2048x600_S256x600_1792_0 inb_S2048x1024_S256x1024_1792_0 inb_S2048x1_S256x1_1792_0 _ rfl x
    · exact piece 6 (by decide) ![1536, 0] rfl rfl inb_S2048x600_S256x600_1536_0 inb_S2048x1024_S256x1024_1536_0 inb_S2048x1_S256x1_1536_0 _ rfl x
    · exact piece 5 (by decide) ![1280, 0] rfl rfl inb_S2048x600_S256x600_1280_0 inb_S2048x1024_S256x1024_1280_0 inb_S2048x1_S256x1_1280_0 _ rfl x
    · exact piece 4 (by decide) ![1024, 0] rfl rfl inb_S2048x600_S256x600_1024_0 inb_S2048x1024_S256x1024_1024_0 inb_S2048x1_S256x1_1024_0 _ rfl x
    · exact piece 3 (by decide) ![768, 0] rfl rfl inb_S2048x600_S256x600_768_0 inb_S2048x1024_S256x1024_768_0 inb_S2048x1_S256x1_768_0 _ rfl x
    · exact piece 2 (by decide) ![512, 0] rfl rfl inb_S2048x600_S256x600_512_0 inb_S2048x1024_S256x1024_512_0 inb_S2048x1_S256x1_512_0 _ rfl x
    · exact piece 1 (by decide) ![256, 0] rfl rfl inb_S2048x600_S256x600_256_0 inb_S2048x1024_S256x1024_256_0 inb_S2048x1_S256x1_256_0 _ rfl x
    · exact piece 0 (by decide) ![0, 0] rfl rfl inb_S2048x600_S256x600_0_0 inb_S2048x1024_S256x1024_0_0 inb_S2048x1_S256x1_0_0 _ rfl x
  iexists _; isplitr; swap; · iexact HS
  ipureintro
  refine (View.read_writes_full arg12.view fs _ _ _).trans ?_
  rw [View.readAt_full, View.readAt_full, View.readAt_full, hf2, hf3, hfs]

end Runs

end Cert.Proof.Run

end
-- ==== Proof.Region.lean ====
/-
  The perceptron's pallas_call as a region of @main: what its windows stage, what the accumulator holds before each grid
  point, the body's obligation at every point, and the region's entry and exit around the TensorCore's buffers.
-/
module

public import proofs.«01_k».proof.Proof.Body
public import Idealize.ShloMosaic.Lib.Pipeline.Regions

@[expose] public section

set_option maxRecDepth 16384

noncomputable section

namespace Cert.Proof.Run

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The values -/

/-- The TensorCore's buffers' contents when the region is entered. -/
abbrev Bufs (F : FTy → Type) := (d : Dev nD) → (b : Ref sig .tc) → Buf (Elt F) ((d : Thread nD τ).loc b)

variable (A : Bufs F)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (A c (Pipeline.arrRef spec1 w))

/-- What the accumulator holds after the point at position `n`: the product of that point's blocks, added to what the point before left unless the
    point is the first of its row. -/
def accAt (c : Dev nD) : (n : ℕ) → n < cfg1.N → Vec F S2048x1024 .f32
  | 0, hn => k1_pay2 (iblk A c 2 ⟨0, hn⟩) (iblk A c 3 ⟨0, hn⟩)
  | n + 1, hn =>
    if (n + 1) % 14 = 0 then k1_pay2 (iblk A c 2 ⟨n + 1, hn⟩) (iblk A c 3 ⟨n + 1, hn⟩)
    else k1_pay3 (iblk A c 2 ⟨n + 1, hn⟩) (iblk A c 3 ⟨n + 1, hn⟩) (accAt c n (Nat.lt_of_succ_lt hn))

theorem accAt_first (c : Dev nD) (t : Fin cfg1.N) (h : t.val % 14 = 0) : accAt A c t.val t.isLt = k1_pay2 (iblk A c 2 t) (iblk A c 3 t) := by
  obtain ⟨n, hn⟩ := t
  cases n with
  | zero => rfl
  | succ n => exact if_pos h

theorem accAt_later (c : Dev nD) (t : Fin cfg1.N) (h : t.val % 14 ≠ 0) :
    accAt A c t.val t.isLt = k1_pay3 (iblk A c 2 t) (iblk A c 3 t) (accAt A c (t.val - 1) (Nat.lt_of_le_of_lt (Nat.sub_le _ _) t.isLt)) := by
  obtain ⟨n, hn⟩ := t
  cases n with
  | zero => exact absurd (Nat.zero_mod _) h
  | succ n => exact if_neg h

/-- The block of results at point `t`, from the accumulator there. -/
def outAt (c : Dev nD) (t : Fin cfg1.N) : Vec F S2048x600 .f32 :=
  outBlk (iblk A c 0 t) (iblk A c 1 t) (accAt A c t.val t.isLt) (iblk A c 4 t) (iblk A c 5 t) (iblk A c 6 t) (iblk A c 7 t) (iblk A c 8 t)

/-! ## The proof data -/

/-- The accumulator's buffer. -/
abbrev accM : Memref sig .tc .vmem S2048x1024 .f32 := Memref.whole cc1_scratch0

/-- Before position `n` the accumulator holds what the point before left, unless `n` begins a row of points. -/
def accInv (c : Dev nD) (n : ℕ) : sProp 𝕄 :=
  iprop(∃ a, ⌜∀ h : n - 1 < cfg1.N, n % 14 ≠ 0 → a = accAt A c (n - 1) h⌝ ∗ owns (c : Thread nD τ) accM fullShare a)

/-- The pairs a wait recorded before the region may be at: those at or below the level the only SparseCore call leaves. -/
def lowPairs (c : Dev nD) : Set (SemLoc sig × HIx 1) := {p | (K (F := F)).lev (T c, p.1) p.2 ≤ 8}

/-- The region's proof data on core `c`: the arrays as found; after the body each input's buffer at its block and the output's at the block of
    results; the accumulator's invariant; nothing owed; full shares. -/
def dats (_ : Fin 1) (c : Dev nD) : Dat τ (Elt F) (HIx 1) ℕ UU ℕ cfg1 c where
  A w := A c (Pipeline.arrRef spec1 w)
  after w t := match w with
    | ⟨0, _⟩ => iblk A c 0 t
    | ⟨1, _⟩ => iblk A c 1 t
    | ⟨2, _⟩ => iblk A c 2 t
    | ⟨3, _⟩ => iblk A c 3 t
    | ⟨4, _⟩ => iblk A c 4 t
    | ⟨5, _⟩ => iblk A c 5 t
    | ⟨6, _⟩ => iblk A c 6 t
    | ⟨7, _⟩ => iblk A c 7 t
    | ⟨8, _⟩ => iblk A c 8 t
    | ⟨9, _⟩ => outAt A c t
  Φ t := accInv A c t.val
  q _ := fullShare
  owed _ := 0
  recorded _ := lowPairs (F := F) c

theorem A_eq (c : Dev nD) (w : Fin cfg1.W) : (dats A 0 c).A w = A c (Pipeline.arrRef spec1 w) := by dsimp only [dats]

theorem after_0 (c : Dev nD) (t : Fin cfg1.N) : (dats A 0 c).after 0 t = iblk A c 0 t := by dsimp only [dats]
theorem after_1 (c : Dev nD) (t : Fin cfg1.N) : (dats A 0 c).after 1 t = iblk A c 1 t := by dsimp only [dats]
theorem after_2 (c : Dev nD) (t : Fin cfg1.N) : (dats A 0 c).after 2 t = iblk A c 2 t := by dsimp only [dats]
theorem after_3 (c : Dev nD) (t : Fin cfg1.N) : (dats A 0 c).after 3 t = iblk A c 3 t := by dsimp only [dats]
theorem after_4 (c : Dev nD) (t : Fin cfg1.N) : (dats A 0 c).after 4 t = iblk A c 4 t := by dsimp only [dats]
theorem after_5 (c : Dev nD) (t : Fin cfg1.N) : (dats A 0 c).after 5 t = iblk A c 5 t := by dsimp only [dats]
theorem after_6 (c : Dev nD) (t : Fin cfg1.N) : (dats A 0 c).after 6 t = iblk A c 6 t := by dsimp only [dats]
theorem after_7 (c : Dev nD) (t : Fin cfg1.N) : (dats A 0 c).after 7 t = iblk A c 7 t := by dsimp only [dats]
theorem after_8 (c : Dev nD) (t : Fin cfg1.N) : (dats A 0 c).after 8 t = iblk A c 8 t := by dsimp only [dats]
theorem after_9 (c : Dev nD) (t : Fin cfg1.N) : (dats A 0 c).after 9 t = outAt A c t := by dsimp only [dats]

/-- An input window's buffer holds its block at every point, whether it is fetched there or stays from the point before. -/
theorem before_0 (c : Dev nD) (t : Fin cfg1.N) (d) : (dats A 0 c).before 0 t d = iblk A c 0 t :=
  ((dats A 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats A 0 c).before 1 t d = iblk A c 1 t :=
  ((dats A 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats A 0 c).before 2 t d = iblk A c 2 t :=
  ((dats A 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dats A 0 c).before 3 t d = iblk A c 3 t :=
  ((dats A 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dats A 0 c).before 4 t d = iblk A c 4 t :=
  ((dats A 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dats A 0 c).before 5 t d = iblk A c 5 t :=
  ((dats A 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dats A 0 c).before 6 t d = iblk A c 6 t :=
  ((dats A 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dats A 0 c).before 7 t d = iblk A c 7 t :=
  ((dats A 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dats A 0 c).before 8 t d = iblk A c 8 t :=
  ((dats A 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-! ## The body's obligation -/

theorem leaves_0 (c : Dev nD) (t : Fin cfg1.N) : ((dats A 0 c).leavesExact 0 t : sProp 𝕄) = owns (c : Thread nD τ) (win1_0.stage (cfg1.slots t 0)) fullShare (iblk A c 0 t) := by
  unfold Dat.leavesExact; rw [show cfg1.idle 0 (cfg1.grid.coords t) = false from rfl, after_0]
theorem leaves_1 (c : Dev nD) (t : Fin cfg1.N) : ((dats A 0 c).leavesExact 1 t : sProp 𝕄) = owns (c : Thread nD τ) (win1_1.stage (cfg1.slots t 1)) fullShare (iblk A c 1 t) := by
  unfold Dat.leavesExact; rw [show cfg1.idle 1 (cfg1.grid.coords t) = false from rfl, after_1]
theorem leaves_2 (c : Dev nD) (t : Fin cfg1.N) : ((dats A 0 c).leavesExact 2 t : sProp 𝕄) = owns (c : Thread nD τ) (win1_2.stage (cfg1.slots t 2)) fullShare (iblk A c 2 t) := by
  unfold Dat.leavesExact; rw [show cfg1.idle 2 (cfg1.grid.coords t) = false from rfl, after_2]
theorem leaves_3 (c : Dev nD) (t : Fin cfg1.N) : ((dats A 0 c).leavesExact 3 t : sProp 𝕄) = owns (c : Thread nD τ) (win1_3.stage (cfg1.slots t 3)) fullShare (iblk A c 3 t) := by
  unfold Dat.leavesExact; rw [show cfg1.idle 3 (cfg1.grid.coords t) = false from rfl, after_3]
theorem leaves_4 (c : Dev nD) (t : Fin cfg1.N) : ((dats A 0 c).leavesExact 4 t : sProp 𝕄) = owns (c : Thread nD τ) (win1_4.stage (cfg1.slots t 4)) fullShare (iblk A c 4 t) := by
  unfold Dat.leavesExact; rw [show cfg1.idle 4 (cfg1.grid.coords t) = false from rfl, after_4]
theorem leaves_5 (c : Dev nD) (t : Fin cfg1.N) : ((dats A 0 c).leavesExact 5 t : sProp 𝕄) = owns (c : Thread nD τ) (win1_5.stage (cfg1.slots t 5)) fullShare (iblk A c 5 t) := by
  unfold Dat.leavesExact; rw [show cfg1.idle 5 (cfg1.grid.coords t) = false from rfl, after_5]
theorem leaves_6 (c : Dev nD) (t : Fin cfg1.N) : ((dats A 0 c).leavesExact 6 t : sProp 𝕄) = owns (c : Thread nD τ) (win1_6.stage (cfg1.slots t 6)) fullShare (iblk A c 6 t) := by
  unfold Dat.leavesExact; rw [show cfg1.idle 6 (cfg1.grid.coords t) = false from rfl, after_6]
theorem leaves_7 (c : Dev nD) (t : Fin cfg1.N) : ((dats A 0 c).leavesExact 7 t : sProp 𝕄) = owns (c : Thread nD τ) (win1_7.stage (cfg1.slots t 7)) fullShare (iblk A c 7 t) := by
  unfold Dat.leavesExact; rw [show cfg1.idle 7 (cfg1.grid.coords t) = false from rfl, after_7]
theorem leaves_8 (c : Dev nD) (t : Fin cfg1.N) : ((dats A 0 c).leavesExact 8 t : sProp 𝕄) = owns (c : Thread nD τ) (win1_8.stage (cfg1.slots t 8)) fullShare (iblk A c 8 t) := by
  unfold Dat.leavesExact; rw [show cfg1.idle 8 (cfg1.grid.coords t) = false from rfl, after_8]

/-- The output's window is live at the last point of a row of points, and idle at the others. -/
theorem idle_9 : ∀ t : Fin cfg1.N, cfg1.idle 9 (cfg1.grid.coords t) = decide (t.val % 14 ≠ 13) := by
  intro t
  show (!(k1_cond3 (grid1.coords t) == 1#1)) = decide (t.val % 14 ≠ 13)
  by_cases h : t.val % 14 = 13
  · rw [show k1_cond3 (grid1.coords t) = 1#1 from (isLast_iff t).mpr h, h]; rfl
  · rw [decide_eq_true h, Bool.not_eq_true', beq_eq_false_iff_ne]
    exact fun e => h ((isLast_iff t).mp e)

theorem flush_9 (t : Fin cfg1.N) (h : t.val % 14 ≠ 13) : (cfg1.win 9).flush t = false := by
  rw [← Bool.not_eq_true]; exact fun e => h ((flush1_9 t).mp e)

theorem leaves_9_last (c : Dev nD) (t : Fin cfg1.N) (h : t.val % 14 = 13) :
    ((dats A 0 c).leavesExact 9 t : sProp 𝕄) = owns (c : Thread nD τ) (win1_9.stage (cfg1.slots t 9)) fullShare (outAt A c t) := by
  unfold Dat.leavesExact; rw [idle_9 t, decide_eq_false (by omega), after_9]

theorem leaves_9_idle (c : Dev nD) (t : Fin cfg1.N) (h : t.val % 14 ≠ 13) :
    ((dats A 0 c).leavesExact 9 t : sProp 𝕄) = iprop(∃ d, owns (c : Thread nD τ) (win1_9.stage (cfg1.slots t 9)) fullShare ((dats A 0 c).before 9 t d)) :=
  (dats A 0 c).leavesExact_idle 9 t (by rw [idle_9 t]; exact decide_eq_true h) (flush_9 t h)

/-- What the body is called with at point `t`. -/
def bodyPre (c : Dev nD) (t : Fin cfg1.N) : sProp 𝕄 :=
  iprop((dats A 0 c).Φ t.castSucc ∗ (dats A 0 c).owesAt none t.castSucc
    ∗ (∃ d, owns (c : Thread nD τ) (win1_0.stage (cfg1.slots t 0)) fullShare ((dats A 0 c).before 0 t d)) ∗ (∃ d, owns (c : Thread nD τ) (win1_1.stage (cfg1.slots t 1)) fullShare ((dats A 0 c).before 1 t d)) ∗ (∃ d, owns (c : Thread nD τ) (win1_2.stage (cfg1.slots t 2)) fullShare ((dats A 0 c).before 2 t d)) ∗ (∃ d, owns (c : Thread nD τ) (win1_3.stage (cfg1.slots t 3)) fullShare ((dats A 0 c).before 3 t d)) ∗ (∃ d, owns (c : Thread nD τ) (win1_4.stage (cfg1.slots t 4)) fullShare ((dats A 0 c).before 4 t d)) ∗ (∃ d, owns (c : Thread nD τ) (win1_5.stage (cfg1.slots t 5)) fullShare ((dats A 0 c).before 5 t d)) ∗ (∃ d, owns (c : Thread nD τ) (win1_6.stage (cfg1.slots t 6)) fullShare ((dats A 0 c).before 6 t d)) ∗ (∃ d, owns (c : Thread nD τ) (win1_7.stage (cfg1.slots t 7)) fullShare ((dats A 0 c).before 7 t d)) ∗ (∃ d, owns (c : Thread nD τ) (win1_8.stage (cfg1.slots t 8)) fullShare ((dats A 0 c).before 8 t d)) ∗ (∃ d, owns (c : Thread nD τ) (win1_9.stage (cfg1.slots t 9)) fullShare ((dats A 0 c).before 9 t d)))

/-- What it leaves there. -/
def bodyPost (c : Dev nD) (t : Fin cfg1.N) : sProp 𝕄 :=
  iprop((dats A 0 c).Φ t.succ ∗ (dats A 0 c).owesAt none t.succ
    ∗ (dats A 0 c).leavesExact 0 t ∗ (dats A 0 c).leavesExact 1 t ∗ (dats A 0 c).leavesExact 2 t ∗ (dats A 0 c).leavesExact 3 t ∗ (dats A 0 c).leavesExact 4 t ∗ (dats A 0 c).leavesExact 5 t ∗ (dats A 0 c).leavesExact 6 t ∗ (dats A 0 c).leavesExact 7 t ∗ (dats A 0 c).leavesExact 8 t ∗ (dats A 0 c).leavesExact 9 t)

set_option maxHeartbeats 4000000 in
/-- The body at any point: the inputs' buffers hold their blocks; the point's place in its row says which run applies. -/
theorem sound_body (c : Dev nD) (t : Fin cfg1.N) :
    bodyPre A c t ⊢ wp frame (wpE (defs₀ (F := F)) 𝒱₀ c none) Set.univ (bodyAt1 t) (fun _ => bodyPost A c t) := by
  unfold bodyPre bodyPost bodyAt1
  simp only [before_0, before_1, before_2, before_3, before_4, before_5, before_6, before_7, before_8]
  rw [leaves_0, leaves_1, leaves_2, leaves_3, leaves_4, leaves_5, leaves_6, leaves_7, leaves_8]
  rw [show (dats A 0 c).owesAt none t.succ = (dats A 0 c).owesAt none t.castSucc from rfl]
  rw [show (dats A 0 c).Φ t.castSucc = accInv A c t.val from rfl, show (dats A 0 c).Φ t.succ = accInv A c (t.val + 1) from rfl]
  have hN : t.val < 28 := lt_of_lt_of_eq t.isLt (show cfg1.N = 28 from N_1)
  unfold accInv
  by_cases h0 : t.val % 14 = 0
  · rw [leaves_9_idle A c t (by omega)]
    iintro ⟨⟨%a, %ha, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) accM (Memref.isWhole_whole _) (iblk A c 2 t) (iblk A c 3 t)
      ((isFirst_iff t).mpr h0) (fun h => by have := (isLater_iff t).mp h; omega) (fun h => by have := (isLast_iff t).mp h; omega) Set.univ _)
    isplitl [H2]; · iexact H2
    isplitl [H3]; · iexact H3
    isplitl [HS]; · iexists _; iexact HS
    iintro ⟨H2, H3, HS⟩
    isplitl [HS]
    · iexists _; isplitr; swap; · iexact HS
      ipureintro; intro _ _; exact (accAt_first A c t h0).symm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hacc : accAt A c t.val t.isLt = k1_pay3 (iblk A c 2 t) (iblk A c 3 t) (accAt A c (t.val - 1) (Nat.lt_of_le_of_lt (Nat.sub_le _ _) t.isLt)) := accAt_later A c t h0
    by_cases h2 : t.val % 14 = 13
    · rw [leaves_9_last A c t h2]; unfold outAt; rw [hacc]
      iintro ⟨⟨%a, %ha, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain rfl := ha (Nat.lt_of_le_of_lt (Nat.sub_le _ _) t.isLt) h0
      iapply (run_last c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) accM (Memref.isWhole_whole _) (iblk A c 2 t) (iblk A c 3 t) (accAt A c (t.val - 1) (Nat.lt_of_le_of_lt (Nat.sub_le _ _) t.isLt))
        (iblk A c 0 t) (iblk A c 1 t) (iblk A c 4 t) (iblk A c 5 t) (iblk A c 6 t) (iblk A c 7 t) (iblk A c 8 t)
        (fun h => by have := (isFirst_iff t).mp h; omega) ((isLater_iff t).mpr (by omega)) ((isLast_iff t).mpr h2) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, H9, HS⟩
      isplitl [HS]
      · iexists _; isplitr; swap; · iexact HS
        ipureintro; intro _ _; exact hacc.symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [leaves_9_idle A c t h2]
      iintro ⟨⟨%a, %ha, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain rfl := ha (Nat.lt_of_le_of_lt (Nat.sub_le _ _) t.isLt) h0
      iapply (run_mid c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) accM (Memref.isWhole_whole _) (iblk A c 2 t) (iblk A c 3 t) (accAt A c (t.val - 1) (Nat.lt_of_le_of_lt (Nat.sub_le _ _) t.isLt))
        (fun h => by have := (isFirst_iff t).mp h; omega) ((isLater_iff t).mpr (by omega)) (fun h => h2 ((isLast_iff t).mp h)) Set.univ _)
      isplitl [H2]; · iexact H2
      isplitl [H3]; · iexact H3
      isplitl [HS]; · iexact HS
      iintro ⟨H2, H3, HS⟩
      isplitl [HS]
      · iexists _; isplitr; swap; · iexact HS
        ipureintro; intro _ _; exact hacc.symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

theorem defs₀_row (t : Fin cfg1.N) : defs₀ (F := F) .tc cfg1.body (cfg1.bodyArgs t (cfg1.slots t)) = bodyAt1 t := by
  unfold defs₀; rfl

/-- The pipeline's obligation of its body, at every point. -/
theorem body_obligation (c : Dev nD) : BodyObligation (dats (F := F) A 0 c) (defs₀ (F := F)) 𝒱₀ none Set.univ := fun t => by
  rw [bigSep_W1, bigSep_W1, defs₀_row]
  exact triple_restated (sound_body A c t) rfl .rfl fun _ => .rfl

/-! ## The region -/

/-- The core owes nothing, and every wait it recorded is at or below the level the SparseCore call leaves. -/
def owesLow (c : Dev nD) : sProp 𝕄 :=
  iprop(∃ W, ⌜(K (F := F)).WBelow (T c) W 8⌝ ∗ owes (c : Thread nD τ) (0 : CellTallies nD τ sig (HIx 1)) W)

/-- The prefetched tables' admissible contents: no table. -/
abbrev adm : (p : Fin 1) → (pcfgs (F := F) p).Adm := fun p => (cfgs p).toPCfg_adm

/-- No own semaphore. -/
abbrev osem : Fin 0 → SemLoc sig := fun k => k.elim0

theorem ownSemFacts : Pipeline.OwnSemFacts spec1 osem := by decide

theorem ownSems0_eq (c : Dev nD) :
    (Pipeline.ownSems0 (Ix := HIx 1) (Name := ℕ) (U := UU) (Lvl := ℕ) (Val := Elt F) (τ := τ) osem c : sProp 𝕄) = iprop(emp) := by
  unfold Pipeline.ownSems0; rw [show (Finset.univ : Finset (Fin 0)) = ∅ from rfl, BI.bigSep_empty]; rfl

theorem scopedRest_owns (c : Dev nD) :
    (Pipeline.scopedRest spec1 c : sProp 𝕄) = iprop(∃ f, owns (c : Thread nD τ) accM fullShare f) := by
  rw [scopedRest1_eq]; simp only [owns_whole]; rfl

set_option backward.isDefEq.respectTransparency.types false in
/-- The region: entered from the TensorCore's buffers at `A`; left with the windows' arrays at what the pipeline computes, the other buffers
    unchanged. -/
def reg : Pipeline.RegionSeg (pcfgs (F := F)) adm (dats A) none defs₀ 𝒱₀ (K (F := F)).L (K (F := F)).lev 0 where
  win := launch1.win.to₀
  block_pos := launch1.block_pos
  stage_whole := launch1.stage_whole
  K := Fin 0
  osem := osem
  ho := ownSemFacts
  hbody c := (body_obligation A c).loose
  hwaits := Pipeline.hwaits_of_owed_zero _ _ _ _ (K (F := F)).L (K (F := F)).lev 0 fun _ _ => rfl
  pre c := iprop(unscopedBufs c (A c) ∗ owesLow c)
  post c := iprop((dats A 0 c).arrays ((dats A 0 c).arrAt · cfg1.N) ∗ Pipeline.unscopedRest spec1 c (A c) ∗ owesLow c)
  X _ := iprop(emp)
  Y _ := iprop(emp)
  Z c := Pipeline.unscopedRest spec1 c (A c)
  hentry c := by
    rw [ownSems0_eq]
    have hsplit := Pipeline.arrays_of_unscopedBufs (pcfgs (F := F)) adm (dats A) launch1.win launch1.arr_whole c
      ((dats A 0 c).share_full fun _ => rfl) (A c) (A_eq A c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesLow
      icases HO with ⟨%W, %hW, HO⟩; iexists W; isplitr; · ipureintro; exact fun p hp => Or.inl (hW p hp)
      iexact HO
    isplitr; · iempintro
    iexact Hr
  hin c := by
    rw [show (dats A 0 c).Φ 0 = accInv A c 0 from rfl, show (Pipeline.scopedRest spec1 c : sProp 𝕄) = _ from scopedRest_owns c]; unfold accInv
    iintro ⟨-, -, ⟨%a, Hr⟩⟩
    iexists a; isplitr; · ipureintro; exact fun _ h => absurd (Nat.zero_mod 14) h
    iexact Hr
  hout c := by
    rw [ownSems0_eq, show (dats A 0 c).Φ (Fin.last cfg1.N) = accInv A c cfg1.N from rfl, show (Pipeline.scopedRest spec1 c : sProp 𝕄) = _ from scopedRest_owns c]; unfold accInv
    iintro ⟨%a, -, Hr⟩
    isplitr; · iempintro
    isplitr; · iempintro
    iexists a; iexact Hr
  hexit c := by
    iintro ⟨Ha, HO, -, HZ⟩
    imodintro
    isplitl [Ha]; · iexact Ha
    isplitl [HZ]; · iexact HZ
    unfold Pipeline.Dat.owesAt Pipeline.owesWithin owesLow
    icases HO with ⟨%W, %hW, HO⟩; iexists W; isplitr; swap; · iexact HO
    ipureintro
    intro p hp
    rcases hW hp with h | h
    · exact h
    · obtain ⟨w, s, rfl⟩ := h
      exact Nat.zero_le _

end Cert.Proof.Run

end
-- ==== Proof.TileStep.lean ====
/-
  The SparseCore task, once, at a symbolic pair (SparseCore, tile): the two tables and the task's rows of the two index
  arrays are copied into the tile's memory; eight times, sixteen pairs are looked up, their scores multiplied and their
  object labels read; the 128 products and labels are copied out. What the tile leaves in its rows of the results is
  exactly the product and the label of each pair (`tile_body`).
-/
module

public import proofs.«01_k».proof.Proof.Common

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sV" => (Memref.whole Cert.KernelIdeal.main_arg1_scv : Memref Cert.KernelIdeal.sig Kind.scVector Space.hbm Cert.KernelIdeal.S5000 EltTy.f32)
local notation "lV" => (Memref.whole Cert.KernelIdeal.main_arg2_scv : Memref Cert.KernelIdeal.sig Kind.scVector Space.hbm Cert.KernelIdeal.S5000 EltTy.i32)
local notation "hV" => (Memref.whole Cert.KernelIdeal.main_v1_scv : Memref Cert.KernelIdeal.sig Kind.scVector Space.hbm Cert.KernelIdeal.S4096 EltTy.i32)
local notation "oV" => (Memref.whole Cert.KernelIdeal.main_v3_scv : Memref Cert.KernelIdeal.sig Kind.scVector Space.hbm Cert.KernelIdeal.S4096 EltTy.i32)
local notation "pV" => (Memref.whole Cert.KernelIdeal.main_v4_0_scv : Memref Cert.KernelIdeal.sig Kind.scVector Space.hbm Cert.KernelIdeal.S4096 EltTy.f32)
local notation "cV" => (Memref.whole Cert.KernelIdeal.main_v4_1_scv : Memref Cert.KernelIdeal.sig Kind.scVector Space.hbm Cert.KernelIdeal.S4096 EltTy.i32)
local notation "t0" => (Memref.whole Cert.KernelIdeal.cc0_scratch0 : Memref Cert.KernelIdeal.sig Kind.scVector Space.vmem Cert.KernelIdeal.S5000 EltTy.f32)
local notation "t1" => (Memref.whole Cert.KernelIdeal.cc0_scratch1 : Memref Cert.KernelIdeal.sig Kind.scVector Space.vmem Cert.KernelIdeal.S5000 EltTy.i32)
local notation "t2" => (Memref.whole Cert.KernelIdeal.cc0_scratch2 : Memref Cert.KernelIdeal.sig Kind.scVector Space.vmem Cert.KernelIdeal.S128 EltTy.i32)
local notation "t3" => (Memref.whole Cert.KernelIdeal.cc0_scratch3 : Memref Cert.KernelIdeal.sig Kind.scVector Space.vmem Cert.KernelIdeal.S128 EltTy.i32)
local notation "t4" => (Memref.whole Cert.KernelIdeal.cc0_scratch4 : Memref Cert.KernelIdeal.sig Kind.scVector Space.vmem Cert.KernelIdeal.S128 EltTy.f32)
local notation "t5" => (Memref.whole Cert.KernelIdeal.cc0_scratch5 : Memref Cert.KernelIdeal.sig Kind.scVector Space.vmem Cert.KernelIdeal.S128 EltTy.i32)

variable (m : (ℓ : Loc nD τ sig) → Buf (Elt F) ℓ)
variable (d : Dev nD) (L : grid0.Coords)

abbrev cT (L : grid0.Coords) : Fin τ.nSC := (L 0).castLE hcore0
abbrev jT (L : grid0.Coords) : Fin τ.nSub := (L 1).castLE hsub0
theorem bound_zero : grid0.bound 0 = 2 := rfl
theorem bound_one : grid0.bound 1 = 16 := rfl
/-- The number of the task at coordinates `L`. -/
abbrev kT (L : grid0.Coords) : Fin 32 := tk (Fin.cast bound_zero (L 0)) (Fin.cast bound_one (L 1))
/-- The thread the task runs on. -/
abbrev tT (d : Dev nD) (L : grid0.Coords) : Thread nD τ := V d (cT L) (jT L)

abbrev rowK1 (L : grid0.Coords) : Rect S4096 := Rect.unit (s := S4096) (k0_off1 L) S128.size (k0_off1_inb L)
abbrev rowK2 (L : grid0.Coords) : Rect S4096 := Rect.unit (s := S4096) (k0_off2 L) S128.size (k0_off2_inb L)
abbrev hRow (L : grid0.Coords) : Memref sig .scVector .hbm S128 .i32 := (hV).slice (rowK1 L) (fun _ => rfl)
abbrev oRow (L : grid0.Coords) : Memref sig .scVector .hbm S128 .i32 := (oV).slice (rowK1 L) (fun _ => rfl)
abbrev pRow (L : grid0.Coords) : Memref sig .scVector .hbm S128 .f32 := (pV).slice (rowK2 L) (fun _ => rfl)
abbrev cRow (L : grid0.Coords) : Memref sig .scVector .hbm S128 .i32 := (cV).slice (rowK2 L) (fun _ => rfl)

theorem rowK1_eq : rowK1 L = row (kT L) := by
  unfold rowK1 row Rect.part Rect.block
  congr 1 <;> funext a
  · rw [k0_off1_eq]
    match a with
    | 0 =>
      show 256 * (L 1).val + 128 * (L 0).val = (2 * (L 1).val + (L 0).val) * 128
      omega
  · match a with
    | 0 => simp [Shape.partSize]
theorem rowK2_eq : rowK2 L = row (kT L) := by
  unfold rowK2 row Rect.part Rect.block
  congr 1 <;> funext a
  · rw [k0_off2_eq]
    match a with
    | 0 =>
      show 256 * (L 1).val + 128 * (L 0).val = (2 * (L 1).val + (L 0).val) * 128
      omega
  · match a with
    | 0 => simp [Shape.partSize]

theorem set_hRow : (hRow L).view.set = rowSet (kT L) := by
  show ((View.whole (main_v1_scv : Ref sig .scVector)).slice (rowK1 L)).set = _
  rw [View.set_slice, rowK1_eq]; exact Finset.map_refl
theorem set_oRow : (oRow L).view.set = rowSet (kT L) := by
  show ((View.whole (main_v3_scv : Ref sig .scVector)).slice (rowK1 L)).set = _
  rw [View.set_slice, rowK1_eq]; exact Finset.map_refl
theorem set_pRow : (pRow L).view.set = rowSet (kT L) := by
  show ((View.whole (main_v4_0_scv : Ref sig .scVector)).slice (rowK2 L)).set = _
  rw [View.set_slice, rowK2_eq]; exact Finset.map_refl
theorem set_cRow : (cRow L).view.set = rowSet (kT L) := by
  show ((View.whole (main_v4_1_scv : Ref sig .scVector)).slice (rowK2 L)).set = _
  rw [View.set_slice, rowK2_eq]; exact Finset.map_refl

theorem pts_hRow (f : Buf (Elt F) (hLoc d)) :
    ((hRow L).view.loc (tT d L) ↦[(hRow L).view.set]{fullShare} f : sProp 𝕄) = hLoc d ↦[rowSet (kT L)]{fullShare} f := by rw [set_hRow]
theorem pts_oRow (f : Buf (Elt F) (oLoc d)) :
    ((oRow L).view.loc (tT d L) ↦[(oRow L).view.set]{fullShare} f : sProp 𝕄) = oLoc d ↦[rowSet (kT L)]{fullShare} f := by rw [set_oRow]
theorem pts_pRow (f : Buf (Elt F) (pLoc d)) :
    ((pRow L).view.loc (tT d L) ↦[(pRow L).view.set]{fullShare} f : sProp 𝕄) = pLoc d ↦[rowSet (kT L)]{fullShare} f := by rw [set_pRow]
theorem pts_cRow (f : Buf (Elt F) (cLoc d)) :
    ((cRow L).view.loc (tT d L) ↦[(cRow L).view.set]{fullShare} f : sProp 𝕄) = cLoc d ↦[rowSet (kT L)]{fullShare} f := by rw [set_cRow]
theorem pts_sV (q : PosShare TreeShare) (f : Buf (Elt F) (sLoc d)) :
    ((sV).view.loc (tT d L) ↦{q} f : sProp 𝕄) = sLoc d ↦{q} f := rfl
theorem pts_lV (q : PosShare TreeShare) (f : Buf (Elt F) (lLoc d)) :
    ((lV).view.loc (tT d L) ↦{q} f : sProp 𝕄) = lLoc d ↦{q} f := rfl

/-- A semaphore of the task's, by its name. -/
abbrev cell (d : Dev nD) (L : grid0.Coords) (s : DmaSem sig) : GSem nD τ sig := (tT d L, .dma s)

theorem cell_mem (s : DmaSem sig) (h : (SemLoc.dma s : SemLoc sig).isScoped .scVector = true) : cell d L s ∈ ownCells (tT d L) :=
  mem_ownCells.mpr ⟨rfl, h⟩
theorem cell_ne {s s' : DmaSem sig} (h : s ≠ s') : cell d L s ≠ cell d L s' := fun e => h (SemLoc.dma.inj (Prod.mk.inj e).2)

/-- The task's six semaphores are among its own: they are those, at zero, and the rest. -/
theorem ownSems0_V :
    (ownSems0 (tT d L) : sProp 𝕄)
      = iprop(semVal (cell d L cc0_scoped0.sem) 0 ∗ semVal (cell d L cc0_scoped1.sem) 0 ∗ semVal (cell d L cc0_scoped2.sem) 0
          ∗ semVal (cell d L cc0_scoped3.sem) 0 ∗ semVal (cell d L cc0_scoped4.sem) 0 ∗ semVal (cell d L cc0_scoped5.sem) 0
          ∗ bigSep (((((((ownCells (tT d L)).erase (cell d L cc0_scoped0.sem)).erase (cell d L cc0_scoped1.sem)).erase (cell d L cc0_scoped2.sem)).erase
              (cell d L cc0_scoped3.sem)).erase (cell d L cc0_scoped4.sem)).erase (cell d L cc0_scoped5.sem)) fun g => semVal g 0) := by
  unfold SparseCore.Cfg.ownSems0
  rw [SparseCore.bigSep_erase' (cell_mem d L cc0_scoped0.sem (by decide)),
    SparseCore.bigSep_erase' (i := cell d L cc0_scoped1.sem) (by
      simp only [Finset.mem_erase, ne_eq]; exact ⟨cell_ne d L (by decide), cell_mem d L _ (by decide)⟩),
    SparseCore.bigSep_erase' (i := cell d L cc0_scoped2.sem) (by
      simp only [Finset.mem_erase, ne_eq]; exact ⟨cell_ne d L (by decide), cell_ne d L (by decide), cell_mem d L _ (by decide)⟩),
    SparseCore.bigSep_erase' (i := cell d L cc0_scoped3.sem) (by
      simp only [Finset.mem_erase, ne_eq]; exact ⟨cell_ne d L (by decide), cell_ne d L (by decide), cell_ne d L (by decide), cell_mem d L _ (by decide)⟩),
    SparseCore.bigSep_erase' (i := cell d L cc0_scoped4.sem) (by
      simp only [Finset.mem_erase, ne_eq]
      exact ⟨cell_ne d L (by decide), cell_ne d L (by decide), cell_ne d L (by decide), cell_ne d L (by decide), cell_mem d L _ (by decide)⟩),
    SparseCore.bigSep_erase' (i := cell d L cc0_scoped5.sem) (by
      simp only [Finset.mem_erase, ne_eq]
      exact ⟨cell_ne d L (by decide), cell_ne d L (by decide), cell_ne d L (by decide), cell_ne d L (by decide), cell_ne d L (by decide), cell_mem d L _ (by decide)⟩)]

abbrev sref (L : grid0.Coords) (r : Ref sig .scVector) : DevRef τ sig := (Proc.scVector (cT L) (jT L)).devRef r

theorem sref_ne {r r' : Ref sig .scVector} (h : r ≠ r') : sref L r ≠ sref L r' := fun e => h (Proc.devRef_injective _ e)

/-- The task's six scratch buffers are among its own: they are those, at some contents, and the rest. -/
theorem ownBufs_V :
    (ownBufs (tT d L) : sProp 𝕄)
      = iprop((∃ f, (tT d L).loc cc0_scratch0 ↦{fullShare} f) ∗ (∃ f, (tT d L).loc cc0_scratch1 ↦{fullShare} f)
          ∗ (∃ f, (tT d L).loc cc0_scratch2 ↦{fullShare} f) ∗ (∃ f, (tT d L).loc cc0_scratch3 ↦{fullShare} f)
          ∗ (∃ f, (tT d L).loc cc0_scratch4 ↦{fullShare} f) ∗ (∃ f, (tT d L).loc cc0_scratch5 ↦{fullShare} f)
          ∗ bigSep (((((((ownRefs (τ := τ) (.scVector (cT L) (jT L))).erase (sref L cc0_scratch0)).erase (sref L cc0_scratch1)).erase (sref L cc0_scratch2)).erase
              (sref L cc0_scratch3)).erase (sref L cc0_scratch4)).erase (sref L cc0_scratch5))
              fun b => iprop(∃ f, ((d, b) : Loc nD τ sig) ↦{fullShare} f)) := by
  unfold SparseCore.Cfg.ownBufs
  refine (SparseCore.bigSep_erase' (i := sref L cc0_scratch0) (SparseCore.Cfg.mem_ownRefs_of_owner rfl)).trans ?_
  rw [SparseCore.bigSep_erase' (i := sref L cc0_scratch1) (by
      simp only [Finset.mem_erase, ne_eq]; exact ⟨sref_ne L (by decide), SparseCore.Cfg.mem_ownRefs_of_owner rfl⟩),
    SparseCore.bigSep_erase' (i := sref L cc0_scratch2) (by
      simp only [Finset.mem_erase, ne_eq]; exact ⟨sref_ne L (by decide), sref_ne L (by decide), SparseCore.Cfg.mem_ownRefs_of_owner rfl⟩),
    SparseCore.bigSep_erase' (i := sref L cc0_scratch3) (by
      simp only [Finset.mem_erase, ne_eq]; exact ⟨sref_ne L (by decide), sref_ne L (by decide), sref_ne L (by decide), SparseCore.Cfg.mem_ownRefs_of_owner rfl⟩),
    SparseCore.bigSep_erase' (i := sref L cc0_scratch4) (by
      simp only [Finset.mem_erase, ne_eq]
      exact ⟨sref_ne L (by decide), sref_ne L (by decide), sref_ne L (by decide), sref_ne L (by decide), SparseCore.Cfg.mem_ownRefs_of_owner rfl⟩),
    SparseCore.bigSep_erase' (i := sref L cc0_scratch5) (by
      simp only [Finset.mem_erase, ne_eq]
      exact ⟨sref_ne L (by decide), sref_ne L (by decide), sref_ne L (by decide), sref_ne L (by decide), sref_ne L (by decide), SparseCore.Cfg.mem_ownRefs_of_owner rfl⟩)]
  rfl

variable [FloatOps F]
variable (hI oI : Dev nD → S4096.Idx → BitVec 32)

/-! ## One step: sixteen pairs -/

/-- The rectangle of sixteen words from word `o` of a scratch of 128. -/
abbrev lane (o : ℕ) (h : ∀ a, (![o] : Fin 1 → ℕ) a + S16.size a ≤ S128.size a) : Rect S128 := Rect.unit (s := S128) ![o] S16.size h

/-- Position `x` of the sixteen from word `o` is word `o + x`. -/
theorem lane_emb (o : ℕ) (h : ∀ a, (![o] : Fin 1 → ℕ) a + S16.size a ≤ S128.size a) (x : S16.Idx) : ((lane o h).emb x 0).val = o + (x 0).val := by
  rw [Rect.emb_apply]; simp [Nat.mul_comm]

/-- A word from `o` to `o + 15` is one of the sixteen. -/
theorem lane_surj (o : ℕ) (h : ∀ a, (![o] : Fin 1 → ℕ) a + S16.size a ≤ S128.size a) (y : S128.Idx) (h1 : o ≤ (y 0).val) (h2 : (y 0).val < o + 16) :
    ∃ x, (lane o h).emb x = y := by
  refine ⟨fun a => ⟨(y 0).val - o, ?_⟩, ?_⟩
  · match a with | 0 => show _ < 16; omega
  · funext a
    match a with
    | 0 => apply Fin.ext; rw [lane_emb]; show o + ((y 0).val - o) = _; omega

/-- Storing sixteen words of `A` from word `o`, over contents that are `A` below `o`, leaves contents that are `A` below `o + 16`. -/
theorem lane_write {e : EltTy} (v : Memref sig .scVector .vmem S128 e) (hv : v.IsWhole) (f : v.view.ty.Contents (Elt F)) (A : S128.Idx → Elt F e) (o : ℕ)
    (h : ∀ a, (![o] : Fin 1 → ℕ) a + S16.size a ≤ S128.size a) (w : S16.Idx → Elt F e)
    (hw : ∀ x : S16.Idx, ∀ y : S128.Idx, (y 0).val = o + (x 0).val → w x = A y)
    (hf : ∀ y : S128.Idx, (y 0).val < o → v.view.read (Elt F) f y = A y) :
    ∀ y : S128.Idx, (y 0).val < o + 16 → v.view.read (Elt F) ((v.access (lane o h)).write (Elt F) f w Finset.univ) y = A y := by
  intro y hy
  by_cases hlt : (y 0).val < o
  · refine (View.read_slice_write_of_not_mem (v := v.view) (lane o h) f w Finset.univ fun hm => ?_).trans (hf y hlt)
    obtain ⟨x, -, e⟩ := Finset.mem_map.1 hm
    have := lane_emb o h x
    rw [e] at this; omega
  · obtain ⟨x, rfl⟩ := lane_surj o h y (by omega) hy
    exact (View.read_slice_write_emb (v := v.view) (lane o h) f w (Finset.mem_univ x)).trans (hw x _ (lane_emb o h x))

/-- The whole rectangle's positions are the array's. -/
theorem whole_emb (x : S5000.Idx) : (Rect.whole S5000).emb x = x := by
  funext a; apply Fin.ext; rw [Rect.emb_apply]; simp [Rect.whole]

/-- One step of the task: sixteen pairs' scores are gathered and multiplied, their object labels gathered, both stored
    from word `o` of the scratches. The scratches then hold the wanted values below word `o + 16` if they did below `o`. -/
theorem gather_step (g0 : Buf (Elt F) ((t0).view.loc (tT d L))) (g1 : Buf (Elt F) ((t1).view.loc (tT d L)))
    (A : S128.Idx → Elt F .f32) (B : S128.Idx → Elt F .i32) (o : ℕ) (h : ∀ a, (![o] : Fin 1 → ℕ) a + S16.size a ≤ S128.size a)
    (vh vo : IVec S16 32) (h1 : ∀ a x, ((![vh] : Fin 1 → IVec S16 32) a x).toNat < S5000.size a) (h2 h3 : ∀ a x, ((![vo] : Fin 1 → IVec S16 32) a x).toNat < S5000.size a)
    {l1 l2 : (t0).view.Loads} {l3 : (t1).view.Loads} {l4 : (t4).view.LoadsAt (lane o h).toLoadRect} {l5 : (t5).view.LoadsAt (lane o h).toLoadRect}
    {s4 : ((t4).access (lane o h)).Stores Finset.univ} {s5 : ((t5).access (lane o h)).Stores Finset.univ}
    {u4 : (Finset.univ : Finset (lane o h).shape.Idx) = Finset.univ ∨ ∀ a, (lane o h).stride a = 1} {u5 : (Finset.univ : Finset (lane o h).shape.Idx) = Finset.univ ∨ ∀ a, (lane o h).stride a = 1}
    (hA : ∀ x : S16.Idx, ∀ y : S128.Idx, (y 0).val = o + (x 0).val →
      mulf (F := F) (φ := .f32) (loadIdx (F := F) (e := .f32) g0 (![vh] : Fin 1 → IVec S16 32) h1) (loadIdx (F := F) (e := .f32) g0 (![vo] : Fin 1 → IVec S16 32) h2) x = A y)
    (hB : ∀ x : S16.Idx, ∀ y : S128.Idx, (y 0).val = o + (x 0).val → loadIdx (F := F) (e := .i32) g1 (![vo] : Fin 1 → IVec S16 32) h3 x = B y)
    (f4 : Buf (Elt F) ((t4).view.loc (tT d L))) (f5 : Buf (Elt F) ((t5).view.loc (tT d L)))
    (h4 : ∀ y : S128.Idx, (y 0).val < o → (t4).view.read (Elt F) f4 y = A y) (h5 : ∀ y : S128.Idx, (y 0).val < o → (t5).view.read (Elt F) f5 y = B y)
    (k : PUnit → Prog (TpuEff nD τ sig (Elt F) Λ₀ (tT d L).2) PUnit) (Q : PUnit → sProp 𝕄) :
    iprop(((t0).view.loc (tT d L) ↦{fullShare} g0) ∗ ((t1).view.loc (tT d L) ↦{fullShare} g1) ∗ ((t4).view.loc (tT d L) ↦{fullShare} f4)
        ∗ ((t5).view.loc (tT d L) ↦{fullShare} f5)
        ∗ (∀ f4' f5', iprop(⌜∀ y : S128.Idx, (y 0).val < o + 16 → (t4).view.read (Elt F) f4' y = A y⌝ ∗ ⌜∀ y : S128.Idx, (y 0).val < o + 16 → (t5).view.read (Elt F) f5' y = B y⌝
          ∗ ((t0).view.loc (tT d L) ↦{fullShare} g0) ∗ ((t1).view.loc (tT d L) ↦{fullShare} g1) ∗ ((t4).view.loc (tT d L) ↦{fullShare} f4')
          ∗ ((t5).view.loc (tT d L) ↦{fullShare} f5')) -∗ wp frame (wpE (defs₀ (F := F)) 𝒱₀ (tT d L) none) Set.univ (k ⟨⟩) Q))
      ⊢ wp frame (wpE (defs₀ (F := F)) 𝒱₀ (tT d L) none) Set.univ
          (SparseCore.vectorLoadIdx t0 (![vh] : Fin 1 → IVec S16 32) h1 l1 >>= fun a =>
            SparseCore.vectorLoadIdx t0 (![vo] : Fin 1 → IVec S16 32) h2 l2 >>= fun b =>
            SparseCore.vectorLoadIdx t1 (![vo] : Fin 1 → IVec S16 32) h3 l3 >>= fun c =>
            .op (.load t4 (lane o h).toLoadRect l4) fun _ => .op (.store t4 (lane o h) (mulf (F := F) (φ := .f32) a b) Finset.univ s4 u4) fun _ =>
            .op (.load t5 (lane o h).toLoadRect l5) fun _ => .op (.store t5 (lane o h) c Finset.univ s5 u5) k) Q := by
  iintro ⟨H0, H1, H4, H5, Hk⟩
  iapply (SparseCore.wp_vectorLoadIdx 𝒱₀ (tT d L) none Set.univ (base := t0) (S := Finset.univ) (q := fullShare) (Finset.subset_univ _)) $$ H0; iintro H0
  iapply (SparseCore.wp_vectorLoadIdx 𝒱₀ (tT d L) none Set.univ (base := t0) (S := Finset.univ) (q := fullShare) (Finset.subset_univ _)) $$ H0; iintro H0
  iapply (SparseCore.wp_vectorLoadIdx 𝒱₀ (tT d L) none Set.univ (base := t1) (S := Finset.univ) (q := fullShare) (Finset.subset_univ _)) $$ H1; iintro H1
  iapply (wp_load 𝒱₀ (tT d L) none Set.univ (m := t4) (S := Finset.univ) (Finset.subset_univ _)) $$ H4; iintro H4
  iapply (wp_store 𝒱₀ (tT d L) none Set.univ (m := t4) (r := lane o h) (Mk := Finset.univ) (S := Finset.univ) (Finset.subset_univ _)) $$ H4; iintro H4
  iapply (wp_load 𝒱₀ (tT d L) none Set.univ (m := t5) (S := Finset.univ) (Finset.subset_univ _)) $$ H5; iintro H5
  iapply (wp_store 𝒱₀ (tT d L) none Set.univ (m := t5) (r := lane o h) (Mk := Finset.univ) (S := Finset.univ) (Finset.subset_univ _)) $$ H5; iintro H5
  have hr0 : ((t0).access (.whole S5000)).read (Elt F) g0 = g0 := funext fun x => congrArg g0 (whole_emb x)
  have hr1 : ((t1).access (.whole S5000)).read (Elt F) g1 = g1 := funext fun x => congrArg g1 (whole_emb x)
  iapply Hk
  isplitr
  · ipureintro
    refine lane_write (e := .f32) t4 (Memref.isWhole_whole _) f4 A o h (mulf (F := F) (φ := .f32) (loadIdx (F := F) (e := .f32) (((t0).access (.whole S5000)).read (Elt F) g0) (![vh] : Fin 1 → IVec S16 32) h1) (loadIdx (F := F) (e := .f32) (((t0).access (.whole S5000)).read (Elt F) g0) (![vo] : Fin 1 → IVec S16 32) h2)) ?_ h4
    intro x y hxy; rw [hr0]; exact hA x y hxy
  isplitr
  · ipureintro
    refine lane_write (e := .i32) t5 (Memref.isWhole_whole _) f5 B o h (loadIdx (F := F) (e := .i32) (((t1).access (.whole S5000)).read (Elt F) g1) (![vo] : Fin 1 → IVec S16 32) h3) ?_ h5
    intro x y hxy; rw [hr1]; exact hB x y hxy
  isplitl [H0]; · iexact H0
  isplitl [H1]; · iexact H1
  isplitl [H4]; · iexact H4
  iexact H5

/-- An indexed load at words below 5000 reads the table at those words. -/
theorem loadIdx_eq {e : EltTy} (g : S5000.Idx → Elt F e) (v : IVec S16 32) (h : ∀ a x, ((![v] : Fin 1 → IVec S16 32) a x).toNat < S5000.size a) (x : S16.Idx) :
    loadIdx (F := F) (e := e) g (![v] : Fin 1 → IVec S16 32) h x = g (at5000 (v x)) := by
  unfold loadIdx
  refine congrArg g (funext fun a => Fin.ext ?_)
  match a with
  | 0 => exact (Nat.mod_eq_of_lt (h 0 x)).symm

/-- The products the task is to leave, of the table and the two lists of words it holds. -/
def prodOf (g0 : S5000.Idx → Elt F .f32) (g2 g3 : S128.Idx → BitVec 32) : S128.Idx → Elt F .f32 :=
  mulf (F := F) (φ := .f32) (s := S128) (fun y => g0 (at5000 (g2 y))) (fun y => g0 (at5000 (g3 y)))
/-- The labels the task is to leave. -/
def clsOf (g1 : S5000.Idx → Elt F .i32) (g3 : S128.Idx → BitVec 32) : S128.Idx → Elt F .i32 := fun y => g1 (at5000 (g3 y))

/-- What sixteen loaded words are: the list's, from word `o`. -/
theorem lane_read (v : Memref sig .scVector .vmem S128 .i32) (g : v.view.ty.Contents (Elt F)) (o : ℕ) (h : ∀ a, (![o] : Fin 1 → ℕ) a + S16.size a ≤ S128.size a)
    (x : S16.Idx) (y : S128.Idx) (hxy : (y 0).val = o + (x 0).val) : v.view.readAt (Elt F) (lane o h).toLoadRect g x = v.view.read (Elt F) g y := by
  rw [View.readAt_apply]
  refine congrArg (v.view.read (Elt F) g) ?_
  funext a
  match a with
  | 0 => exact Fin.ext ((lane_emb o h x).trans hxy.symm)

/-- A step from the check of its first sixteen words on: both checks pass, and the step's values are stored. -/
theorem pair_step (g0 : Buf (Elt F) ((t0).view.loc (tT d L))) (g1 : Buf (Elt F) ((t1).view.loc (tT d L)))
    (g2 : Buf (Elt F) ((t2).view.loc (tT d L))) (g3 : Buf (Elt F) ((t3).view.loc (tT d L)))
    (h2 : ∀ y : S128.Idx, ((g2 y : BitVec 32)).toNat < 5000) (h3 : ∀ y : S128.Idx, ((g3 y : BitVec 32)).toNat < 5000)
    (o : ℕ) (h : ∀ a, (![o] : Fin 1 → ℕ) a + S16.size a ≤ S128.size a)
    (p1 p2 : IVec S16 32 → Prop) (d1 : ∀ v, Decidable (p1 v)) (d2 : ∀ v, Decidable (p2 v))
    (q1 : ∀ v : IVec S16 32, (∀ a x, ((![v] : Fin 1 → IVec S16 32) a x).toNat < S5000.size a) → p1 v)
    (q2 : ∀ v : IVec S16 32, (∀ a x, ((![v] : Fin 1 → IVec S16 32) a x).toNat < S5000.size a) → p2 v)
    {i1 : ∀ v : IVec S16 32, p1 v → ∀ a x, ((![v] : Fin 1 → IVec S16 32) a x).toNat < S5000.size a}
    {i2 i3 : ∀ v : IVec S16 32, p2 v → ∀ a x, ((![v] : Fin 1 → IVec S16 32) a x).toNat < S5000.size a}
    {l1 l2 : (t0).view.Loads} {l3 : (t1).view.Loads} {l0 : (t3).view.LoadsAt (lane o h).toLoadRect}
    {l4 : (t4).view.LoadsAt (lane o h).toLoadRect} {l5 : (t5).view.LoadsAt (lane o h).toLoadRect}
    {s4 : ((t4).access (lane o h)).Stores Finset.univ} {s5 : ((t5).access (lane o h)).Stores Finset.univ}
    {u4 : (Finset.univ : Finset (lane o h).shape.Idx) = Finset.univ ∨ ∀ a, (lane o h).stride a = 1} {u5 : (Finset.univ : Finset (lane o h).shape.Idx) = Finset.univ ∨ ∀ a, (lane o h).stride a = 1}
    (f4 : Buf (Elt F) ((t4).view.loc (tT d L))) (f5 : Buf (Elt F) ((t5).view.loc (tT d L)))
    (h4 : ∀ y : S128.Idx, (y 0).val < o → (t4).view.read (Elt F) f4 y = prodOf g0 g2 g3 y) (h5 : ∀ y : S128.Idx, (y 0).val < o → (t5).view.read (Elt F) f5 y = clsOf g1 g3 y)
    (k : PUnit → Prog (TpuEff nD τ sig (Elt F) Λ₀ (tT d L).2) PUnit) (Q : PUnit → sProp 𝕄) :
    iprop(((t0).view.loc (tT d L) ↦{fullShare} g0) ∗ ((t1).view.loc (tT d L) ↦{fullShare} g1) ∗ ((t3).view.loc (tT d L) ↦{fullShare} g3) ∗ ((t4).view.loc (tT d L) ↦{fullShare} f4)
        ∗ ((t5).view.loc (tT d L) ↦{fullShare} f5)
        ∗ (∀ f4' f5', iprop(⌜∀ y : S128.Idx, (y 0).val < o + 16 → (t4).view.read (Elt F) f4' y = prodOf g0 g2 g3 y⌝ ∗ ⌜∀ y : S128.Idx, (y 0).val < o + 16 → (t5).view.read (Elt F) f5' y = clsOf g1 g3 y⌝
          ∗ ((t0).view.loc (tT d L) ↦{fullShare} g0) ∗ ((t1).view.loc (tT d L) ↦{fullShare} g1) ∗ ((t3).view.loc (tT d L) ↦{fullShare} g3) ∗ ((t4).view.loc (tT d L) ↦{fullShare} f4')
          ∗ ((t5).view.loc (tT d L) ↦{fullShare} f5')) -∗ wp frame (wpE (defs₀ (F := F)) 𝒱₀ (tT d L) none) Set.univ (k ⟨⟩) Q))
      ⊢ wp frame (wpE (defs₀ (F := F)) 𝒱₀ (tT d L) none) Set.univ
          (.op (.assume (p1 ((t2).view.readAt (Elt F) (lane o h).toLoadRect g2)) (d1 _)) fun e1 =>
            .op (.load t3 (lane o h).toLoadRect l0) fun (vo : IVec S16 32) => .op (.assume (p2 vo) (d2 vo)) fun e2 =>
            SparseCore.vectorLoadIdx t0 (![(t2).view.readAt (Elt F) (lane o h).toLoadRect g2] : Fin 1 → IVec S16 32) (i1 _ e1.down) l1 >>= fun a =>
            SparseCore.vectorLoadIdx t0 (![vo] : Fin 1 → IVec S16 32) (i2 vo e2.down) l2 >>= fun b =>
            SparseCore.vectorLoadIdx t1 (![vo] : Fin 1 → IVec S16 32) (i3 vo e2.down) l3 >>= fun c =>
            .op (.load t4 (lane o h).toLoadRect l4) fun _ => .op (.store t4 (lane o h) (mulf (F := F) (φ := .f32) a b) Finset.univ s4 u4) fun _ =>
            .op (.load t5 (lane o h).toLoadRect l5) fun _ => .op (.store t5 (lane o h) c Finset.univ s5 u5) k) Q := by
  have inb2 : ∀ a x, ((![(t2).view.readAt (Elt F) (lane o h).toLoadRect g2] : Fin 1 → IVec S16 32) a x).toNat < S5000.size a := fun a x =>
    match a with | 0 => h2 _
  have inb3 : ∀ a x, ((![(t3).view.readAt (Elt F) (lane o h).toLoadRect g3] : Fin 1 → IVec S16 32) a x).toNat < S5000.size a := fun a x =>
    match a with | 0 => h3 _
  iintro ⟨H0, H1, H3, H4, H5, Hk⟩
  rw [wp_assume_of _ _ _ _ (q1 _ inb2)]
  iapply (wp_load 𝒱₀ (tT d L) none Set.univ (m := t3) (S := Finset.univ) (Finset.subset_univ _)) $$ H3; iintro H3
  rw [wp_assume_of _ _ _ _ (q2 _ inb3)]
  iapply (gather_step d L g0 g1 (prodOf g0 g2 g3) (clsOf g1 g3) o h _ _ inb2 inb3 inb3 ?hA ?hB f4 f5 h4 h5 k Q)
  case hA =>
    intro x y hxy
    unfold prodOf
    show FloatOps.mulf (F := F) (φ := .f32) _ _ = FloatOps.mulf (F := F) (φ := .f32) _ _
    rw [loadIdx_eq (F := F) (e := .f32), loadIdx_eq (F := F) (e := .f32), lane_read t2 g2 o h x y hxy, lane_read t3 g3 o h x y hxy]; rfl
  case hB =>
    intro x y hxy
    unfold clsOf
    rw [loadIdx_eq (F := F) (e := .i32), lane_read t3 g3 o h x y hxy]; rfl
  isplitl [H0]; · iexact H0
  isplitl [H1]; · iexact H1
  isplitl [H4]; · iexact H4
  isplitl [H5]; · iexact H5
  iintro %f4' %f5' ⟨%h4', %h5', H0, H1, H4, H5⟩
  iapply Hk
  isplitr; · ipureintro; exact h4'
  isplitr; · ipureintro; exact h5'
  isplitl [H0]; · iexact H0
  isplitl [H1]; · iexact H1
  isplitl [H3]; · iexact H3
  isplitl [H4]; · iexact H4
  iexact H5

end Cert.Proof.Run

end
-- ==== Proof.Tile.lean ====
/-
  The SparseCore task, once, at a symbolic pair (SparseCore, tile): the two tables and the task's rows of the two index
  arrays are copied into the tile's memory; eight times, sixteen pairs are looked up, their scores multiplied and their
  object labels read; the 128 products and labels are copied out. What the tile leaves in its rows of the results is
  exactly the product and the label of each pair (`tile_body`).
-/
module

public import proofs.«01_k».proof.Proof.TileStep

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sV" => (Memref.whole Cert.KernelIdeal.main_arg1_scv : Memref Cert.KernelIdeal.sig Kind.scVector Space.hbm Cert.KernelIdeal.S5000 EltTy.f32)
local notation "lV" => (Memref.whole Cert.KernelIdeal.main_arg2_scv : Memref Cert.KernelIdeal.sig Kind.scVector Space.hbm Cert.KernelIdeal.S5000 EltTy.i32)
local notation "hV" => (Memref.whole Cert.KernelIdeal.main_v1_scv : Memref Cert.KernelIdeal.sig Kind.scVector Space.hbm Cert.KernelIdeal.S4096 EltTy.i32)
local notation "oV" => (Memref.whole Cert.KernelIdeal.main_v3_scv : Memref Cert.KernelIdeal.sig Kind.scVector Space.hbm Cert.KernelIdeal.S4096 EltTy.i32)
local notation "pV" => (Memref.whole Cert.KernelIdeal.main_v4_0_scv : Memref Cert.KernelIdeal.sig Kind.scVector Space.hbm Cert.KernelIdeal.S4096 EltTy.f32)
local notation "cV" => (Memref.whole Cert.KernelIdeal.main_v4_1_scv : Memref Cert.KernelIdeal.sig Kind.scVector Space.hbm Cert.KernelIdeal.S4096 EltTy.i32)
local notation "t0" => (Memref.whole Cert.KernelIdeal.cc0_scratch0 : Memref Cert.KernelIdeal.sig Kind.scVector Space.vmem Cert.KernelIdeal.S5000 EltTy.f32)
local notation "t1" => (Memref.whole Cert.KernelIdeal.cc0_scratch1 : Memref Cert.KernelIdeal.sig Kind.scVector Space.vmem Cert.KernelIdeal.S5000 EltTy.i32)
local notation "t2" => (Memref.whole Cert.KernelIdeal.cc0_scratch2 : Memref Cert.KernelIdeal.sig Kind.scVector Space.vmem Cert.KernelIdeal.S128 EltTy.i32)
local notation "t3" => (Memref.whole Cert.KernelIdeal.cc0_scratch3 : Memref Cert.KernelIdeal.sig Kind.scVector Space.vmem Cert.KernelIdeal.S128 EltTy.i32)
local notation "t4" => (Memref.whole Cert.KernelIdeal.cc0_scratch4 : Memref Cert.KernelIdeal.sig Kind.scVector Space.vmem Cert.KernelIdeal.S128 EltTy.f32)
local notation "t5" => (Memref.whole Cert.KernelIdeal.cc0_scratch5 : Memref Cert.KernelIdeal.sig Kind.scVector Space.vmem Cert.KernelIdeal.S128 EltTy.i32)

variable (m : (ℓ : Loc nD τ sig) → Buf (Elt F) ℓ)
variable (d : Dev nD) (L : grid0.Coords)
variable [FloatOps F]
variable (hI oI : Dev nD → S4096.Idx → BitVec 32)

/-- Contents that read the same through a view are the same on its elements. -/
theorem eq_of_read {sg : RefSig} {κ : Kind} {sp : Space} {sh : Shape} {e : EltTy} (v : View sg κ sp sh e) (f g : v.ty.Contents (Elt F))
    (h : ∀ y, v.read (Elt F) f y = v.read (Elt F) g y) : ∀ i ∈ v.set, f i = g i := by
  intro i hi
  obtain ⟨y, -, rfl⟩ := Finset.mem_map.1 hi
  have e := h y
  rw [View.read_apply, View.read_apply] at e
  exact cast_inj _ |>.1 e

/-- Contents copied whole into a view are, on its elements, any contents that read there as what was copied. -/
theorem landed {sg : RefSig} {κ : Kind} {sp : Space} {sh : Shape} {e : EltTy} (v : View sg κ sp sh e) (f g : v.ty.Contents (Elt F))
    (w : (Rect.whole sh).shape.Idx → Elt F e) (h : ∀ y : sh.Idx, w y = v.read (Elt F) g y) :
    ∀ i ∈ v.set, v.writes (Elt F) f [⟨Rect.whole sh, w⟩] i = g i := by
  have we : ∀ y : sh.Idx, (Rect.whole sh).emb y = y := fun y => by
    funext a; apply Fin.ext; rw [Rect.emb_apply]; simp [Rect.whole]
  refine eq_of_read v _ _ fun y => ?_
  rw [View.writes_singleton]
  have e := View.read_slice_write_emb (v := v) (Rect.whole sh) f w (Finset.mem_univ (y : (Rect.whole sh).shape.Idx))
  rw [we y] at e
  exact e.trans (h y)

set_option maxHeartbeats 1000000 in
/-- The task on tile `(L 0, L 1)` of device `d`: from its shares of the tables, its rows of the index arrays and of the
    results, it ends with the same, its rows of the results holding each pair's product of scores and object label. -/
theorem tile_body (hF : (K (F := F)).Facts) (hpre : PreOK hI oI) (O : CellTallies nD τ sig (HIx 1)) (W : Waits sig (HIx 1)) (hO : ∀ g, O g none = 0) :
    iprop(levAts (K (F := F)).L (K (F := F)).lev ∗ emp ∗ goK m hI oI d (kT L)
        ∗ scopedBufs (tT d L) ∗ scopedSems0 (tT d L) ∗ owes (tT d L) O W)
      ⊢ wp frame (wpE (defs₀ (F := F)) 𝒱₀ (tT d L) none) Set.univ
          (cc0_body L sV (Memref.isWhole_whole _) lV (Memref.isWhole_whole _) hV (Memref.isWhole_whole _) oV (Memref.isWhole_whole _)
            pV (Memref.isWhole_whole _) cV (Memref.isWhole_whole _) t0 (Memref.isWhole_whole _) t1 (Memref.isWhole_whole _)
            t2 (Memref.isWhole_whole _) t3 (Memref.isWhole_whole _) t4 (Memref.isWhole_whole _) t5 (Memref.isWhole_whole _)
            cc0_scoped0 cc0_scoped1 cc0_scoped2 cc0_scoped3 cc0_scoped4 cc0_scoped5)
          fun _ => iprop(tdK m hI oI d (kT L)
            ∗ scopedBufs (tT d L) ∗ scopedSems0 (tT d L)
            ∗ ∃ W', ⌜∀ p ∈ W', p ∈ W ∨ p.2 = none⌝ ∗ owes (tT d L) O W') := by
  simp only [cc0_body_eq_skeleton]; unfold cc0_body_skel
  rw [(K (F := F)).scopedBufs_V hF d (cT L) (jT L), SparseCore.Cfg.scopedSems0_V (Val := Elt F) d (cT L) (jT L), ownSems0_V, ownBufs_V]
  unfold goK tdK
  simp only [k0_part1_eq_skeleton, k0_part2_eq_skeleton]; unfold k0_part1_skel k0_part2_skel
  simp only [Prog.lift, Prog.bind_op, Prog.bind_ret, Prog.pure_eq_ret, Prog.bind_assoc]
  iintro ⟨#Hlv, -, ⟨Hs, Hl, Hh, Ho, Hp, Hc⟩, ⟨⟨%f0, H0⟩, ⟨%f1, H1⟩, ⟨%f2, H2⟩, ⟨%f3, H3⟩, ⟨%f4, H4⟩, ⟨%f5, H5⟩, Hbufs⟩, ⟨Hm0, Hm1, Hm2, Hm3, Hm4, Hm5, Hsems⟩, HO⟩
  ihave Hmw := (show levAts (K (F := F)).L (K (F := F)).lev ⊢ Transfers.MayWaits (tT d L) (default : HIx 1) O from
    (K (F := F)).mayWaits_none (thr := tT d L) hO) $$ Hlv
  ihave Hs' := (Entails.of_eq (pts_sV (F := F) d L _ _).symm) $$ Hs
  ihave Hl' := (Entails.of_eq (pts_lV (F := F) d L _ _).symm) $$ Hl
  ihave Hh' := (Entails.of_eq (pts_hRow (F := F) d L _).symm) $$ Hh
  ihave Ho' := (Entails.of_eq (pts_oRow (F := F) d L _).symm) $$ Ho
  ihave Hp' := (Entails.of_eq (pts_pRow (F := F) d L _).symm) $$ Hp
  ihave Hc' := (Entails.of_eq (pts_cRow (F := F) d L _).symm) $$ Hc
  ihave H0' := (Entails.of_eq (show ((tT d L).loc cc0_scratch0 ↦{fullShare} f0 : sProp 𝕄) = (t0).view.loc (tT d L) ↦{fullShare} f0 from rfl)) $$ H0
  ihave H1' := (Entails.of_eq (show ((tT d L).loc cc0_scratch1 ↦{fullShare} f1 : sProp 𝕄) = (t1).view.loc (tT d L) ↦{fullShare} f1 from rfl)) $$ H1
  ihave H2' := (Entails.of_eq (show ((tT d L).loc cc0_scratch2 ↦{fullShare} f2 : sProp 𝕄) = (t2).view.loc (tT d L) ↦{fullShare} f2 from rfl)) $$ H2
  ihave H3' := (Entails.of_eq (show ((tT d L).loc cc0_scratch3 ↦{fullShare} f3 : sProp 𝕄) = (t3).view.loc (tT d L) ↦{fullShare} f3 from rfl)) $$ H3
  ihave H4' := (Entails.of_eq (show ((tT d L).loc cc0_scratch4 ↦{fullShare} f4 : sProp 𝕄) = (t4).view.loc (tT d L) ↦{fullShare} f4 from rfl)) $$ H4
  ihave H5' := (Entails.of_eq (show ((tT d L).loc cc0_scratch5 ↦{fullShare} f5 : sProp 𝕄) = (t5).view.loc (tT d L) ↦{fullShare} f5 from rfl)) $$ H5
  sl_exec
  have e0 : View.write (Elt F) (t0).view f0 (tile_body.sl.dma0 m d) Finset.univ = m (sLoc d) := by rw [View.write_whole_univ]; rfl
  have e1 : View.write (Elt F) (t1).view f1 (tile_body.sl.dma0_1 m d) Finset.univ = m (lLoc d) := by rw [View.write_whole_univ]; rfl
  have e2 : View.write (Elt F) (t2).view f2 (tile_body.sl.dma0_2 d L hI) Finset.univ = fun x => hI d ((hRow L).view.emb x) := by
    rw [View.write_whole_univ]; rfl
  have e3 : View.write (Elt F) (t3).view f3 (tile_body.sl.dma0_3 d L oI) Finset.univ = fun x => oI d ((oRow L).view.emb x) := by
    rw [View.write_whole_univ]; rfl
  have ex : tile_body.sl.x d L hI f2 = (t2).view.readAt (Elt F) (lane 0 inb_S128_S16_0).toLoadRect (View.write (Elt F) (t2).view f2 (tile_body.sl.dma0_2 d L hI) Finset.univ) := rfl
  rw [e0, e1, ex]
  generalize hg2 : View.write (Elt F) (t2).view f2 (tile_body.sl.dma0_2 d L hI) Finset.univ = g2
  generalize hg3 : View.write (Elt F) (t3).view f3 (tile_body.sl.dma0_3 d L oI) Finset.univ = g3
  rw [e2] at hg2; rw [e3] at hg3
  have hb2 : ∀ y : S128.Idx, (g2 y : BitVec 32).toNat < 5000 := by subst hg2; intro y; exact (hpre d _).1
  have hb3 : ∀ y : S128.Idx, (g3 y : BitVec 32).toNat < 5000 := by subst hg3; intro y; exact (hpre d _).2
  iapply (pair_step d L (m (sLoc d)) (m (lLoc d)) g2 g3 hb2 hb3 0 inb_S128_S16_0 k0_chk1 k0_chk2 k0_chk1.dec k0_chk2.dec
    (fun _ e => e) (fun _ e => ⟨e, e⟩) _ _ (fun y hy => absurd hy (Nat.not_lt_zero _)) (fun y hy => absurd hy (Nat.not_lt_zero _)) _ _)
  isplitl [H0']; · iexact H0'
  isplitl [H1']; · iexact H1'
  isplitl [H3']; · iexact H3'
  isplitl [H4']; · iexact H4'
  isplitl [H5']; · iexact H5'
  iintro %r4_1 %r5_1 ⟨%a1, %b1, H0', H1', H3', H4', H5'⟩
  iapply (wp_load 𝒱₀ (tT d L) none Set.univ (m := t2) (S := Finset.univ) (Finset.subset_univ _)) $$ H2'; iintro H2'
  iapply (pair_step d L (m (sLoc d)) (m (lLoc d)) g2 g3 hb2 hb3 16 inb_S128_S16_16 k0_chk3 k0_chk4 k0_chk3.dec k0_chk4.dec
    (fun _ e => e) (fun _ e => ⟨e, e⟩) _ _ a1 b1 _ _)
  isplitl [H0']; · iexact H0'
  isplitl [H1']; · iexact H1'
  isplitl [H3']; · iexact H3'
  isplitl [H4']; · iexact H4'
  isplitl [H5']; · iexact H5'
  iintro %r4_2 %r5_2 ⟨%a2, %b2, H0', H1', H3', H4', H5'⟩
  iapply (wp_load 𝒱₀ (tT d L) none Set.univ (m := t2) (S := Finset.univ) (Finset.subset_univ _)) $$ H2'; iintro H2'
  iapply (pair_step d L (m (sLoc d)) (m (lLoc d)) g2 g3 hb2 hb3 32 inb_S128_S16_32 k0_chk5 k0_chk6 k0_chk5.dec k0_chk6.dec
    (fun _ e => e) (fun _ e => ⟨e, e⟩) _ _ a2 b2 _ _)
  isplitl [H0']; · iexact H0'
  isplitl [H1']; · iexact H1'
  isplitl [H3']; · iexact H3'
  isplitl [H4']; · iexact H4'
  isplitl [H5']; · iexact H5'
  iintro %r4_3 %r5_3 ⟨%a3, %b3, H0', H1', H3', H4', H5'⟩
  iapply (wp_load 𝒱₀ (tT d L) none Set.univ (m := t2) (S := Finset.univ) (Finset.subset_univ _)) $$ H2'; iintro H2'
  iapply (pair_step d L (m (sLoc d)) (m (lLoc d)) g2 g3 hb2 hb3 48 inb_S128_S16_48 k0_chk7 k0_chk8 k0_chk7.dec k0_chk8.dec
    (fun _ e => e) (fun _ e => ⟨e, e⟩) _ _ a3 b3 _ _)
  isplitl [H0']; · iexact H0'
  isplitl [H1']; · iexact H1'
  isplitl [H3']; · iexact H3'
  isplitl [H4']; · iexact H4'
  isplitl [H5']; · iexact H5'
  iintro %r4_4 %r5_4 ⟨%a4, %b4, H0', H1', H3', H4', H5'⟩
  iapply (wp_load 𝒱₀ (tT d L) none Set.univ (m := t2) (S := Finset.univ) (Finset.subset_univ _)) $$ H2'; iintro H2'
  iapply (pair_step d L (m (sLoc d)) (m (lLoc d)) g2 g3 hb2 hb3 64 inb_S128_S16_64 k0_chk9 k0_chk10 k0_chk9.dec k0_chk10.dec
    (fun _ e => e) (fun _ e => ⟨e, e⟩) _ _ a4 b4 _ _)
  isplitl [H0']; · iexact H0'
  isplitl [H1']; · iexact H1'
  isplitl [H3']; · iexact H3'
  isplitl [H4']; · iexact H4'
  isplitl [H5']; · iexact H5'
  iintro %r4_5 %r5_5 ⟨%a5, %b5, H0', H1', H3', H4', H5'⟩
  iapply (wp_load 𝒱₀ (tT d L) none Set.univ (m := t2) (S := Finset.univ) (Finset.subset_univ _)) $$ H2'; iintro H2'
  iapply (pair_step d L (m (sLoc d)) (m (lLoc d)) g2 g3 hb2 hb3 80 inb_S128_S16_80 k0_chk11 k0_chk12 k0_chk11.dec k0_chk12.dec
    (fun _ e => e) (fun _ e => ⟨e, e⟩) _ _ a5 b5 _ _)
  isplitl [H0']; · iexact H0'
  isplitl [H1']; · iexact H1'
  isplitl [H3']; · iexact H3'
  isplitl [H4']; · iexact H4'
  isplitl [H5']; · iexact H5'
  iintro %r4_6 %r5_6 ⟨%a6, %b6, H0', H1', H3', H4', H5'⟩
  iapply (wp_load 𝒱₀ (tT d L) none Set.univ (m := t2) (S := Finset.univ) (Finset.subset_univ _)) $$ H2'; iintro H2'
  iapply (pair_step d L (m (sLoc d)) (m (lLoc d)) g2 g3 hb2 hb3 96 inb_S128_S16_96 k0_chk13 k0_chk14 k0_chk13.dec k0_chk14.dec
    (fun _ e => e) (fun _ e => ⟨e, e⟩) _ _ a6 b6 _ _)
  isplitl [H0']; · iexact H0'
  isplitl [H1']; · iexact H1'
  isplitl [H3']; · iexact H3'
  isplitl [H4']; · iexact H4'
  isplitl [H5']; · iexact H5'
  iintro %r4_7 %r5_7 ⟨%a7, %b7, H0', H1', H3', H4', H5'⟩
  iapply (wp_load 𝒱₀ (tT d L) none Set.univ (m := t2) (S := Finset.univ) (Finset.subset_univ _)) $$ H2'; iintro H2'
  iapply (pair_step d L (m (sLoc d)) (m (lLoc d)) g2 g3 hb2 hb3 112 inb_S128_S16_112 k0_chk15 k0_chk16 k0_chk15.dec k0_chk16.dec
    (fun _ e => e) (fun _ e => ⟨e, e⟩) _ _ a7 b7 _ _)
  isplitl [H0']; · iexact H0'
  isplitl [H1']; · iexact H1'
  isplitl [H3']; · iexact H3'
  isplitl [H4']; · iexact H4'
  isplitl [H5']; · iexact H5'
  iintro %r4_8 %r5_8 ⟨%a8, %b8, H0', H1', H3', H4', H5'⟩
  sl_exec
  sl_step
  have hp : ∀ i ∈ (pRow L).view.set, (pRow L).view.writes (Elt F) (m (pLoc d)) [⟨Rect.whole S128, tile_body.sl.dma0_4 r4_8⟩] i = prodAll m hI oI d i := by
    refine landed (pRow L).view _ _ _ fun y => ?_
    refine (a8 y (by have : (y 0).val < 128 := (y 0).isLt; omega)).trans ?_
    subst hg2; subst hg3; rfl
  have hc : ∀ i ∈ (cRow L).view.set, (cRow L).view.writes (Elt F) (m (cLoc d)) [⟨Rect.whole S128, tile_body.sl.dma0_5 r5_8⟩] i = clsAll m oI d i := by
    refine landed (cRow L).view _ _ _ fun y => ?_
    refine (b8 y (by have : (y 0).val < 128 := (y 0).isLt; omega)).trans ?_
    subst hg3; rfl
  isplitl [Hs' Hl' Hh' Ho' Hp' Hc']
  · isplitl [Hs']; · iexact Hs'
    isplitl [Hl']; · iexact Hl'
    isplitl [Hh']; · iapply (Entails.of_eq (pts_hRow (F := F) d L _)); iexact Hh'
    isplitl [Ho']; · iapply (Entails.of_eq (pts_oRow (F := F) d L _)); iexact Ho'
    isplitl [Hp']
    · iapply (Entails.of_eq ((pointsTo_congr hp).trans (pts_pRow (F := F) d L _))); iexact Hp'
    · iapply (Entails.of_eq ((pointsTo_congr hc).trans (pts_cRow (F := F) d L _))); iexact Hc'
  isplitl [H0' H1' H2' H3' H4' H5' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    isplitl [H5']; · iexists _; iexact H5'
    iexact Hbufs
  isplitl [Hm0 Hm1 Hm2 Hm3 Hm4 Hm5 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    iexact Hsems
  iexists _; isplitr
  swap; · iexact HO
  ipureintro; intro p hp
  simp only [Finset.mem_insert] at hp
  rcases hp with hp | hp | hp | hp | hp | hp | hp
  · exact .inr (hp ▸ rfl)
  · exact .inr (hp ▸ rfl)
  · exact .inr (hp ▸ rfl)
  · exact .inr (hp ▸ rfl)
  · exact .inr (hp ▸ rfl)
  · exact .inr (hp ▸ rfl)
  · exact .inl hp

/-! ## The obligation -/

/-- The grid's coordinates from a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s) sV (Memref.isWhole_whole _) lV (Memref.isWhole_whole _) hV (Memref.isWhole_whole _) oV (Memref.isWhole_whole _)
            pV (Memref.isWhole_whole _) cV (Memref.isWhole_whole _) t0 (Memref.isWhole_whole _) t1 (Memref.isWhole_whole _)
            t2 (Memref.isWhole_whole _) t3 (Memref.isWhole_whole _) t4 (Memref.isWhole_whole _) t5 (Memref.isWhole_whole _)
            cc0_scoped0 cc0_scoped1 cc0_scoped2 cc0_scoped3 cc0_scoped4 cc0_scoped5) ⟨⟩ c s := rfl

omit [FloatOps F] in
/-- The waits a task recorded, all at the unlevelled index, are among those the launch allows it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's obligation to the launch: its task, at its own coordinates. -/
theorem tileObl (hF : (K (F := F)).Facts) (hpre : PreOK hI oI) : (K (F := F)).TileObl (D (F := F)) 𝒱 (P m hI oI) v₀ 0 := by
  intro d c i O W hO _ _
  simp only [show (P m hI oI).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hI oI hF hpre O W hO).trans (wp_mono frame _ _ fun _ => obl_post)

/-- A SparseCore's resources are its sixteen tasks': handing them out and taking them back is the identity. -/
theorem vecSplit : (K (F := F)).VecSplit' (P m hI oI) 0 := by
  intro d c
  show iprop(bigSep Finset.univ fun i : Fin 16 => goK m hI oI d (tk (Fin.cast nCore_zero c) i)) ⊢ |={Set.univ}=> iprop(
      (bigSep Finset.univ fun i : Fin 16 => goK m hI oI d (tk (Fin.cast nCore_zero c) i))
      ∗ ((bigSep Finset.univ fun i : Fin 16 => tdK m hI oI d (tk (Fin.cast nCore_zero c) i))
          -∗ (bigSep Finset.univ fun i : Fin 16 => tdK m hI oI d (tk (Fin.cast nCore_zero c) i))))
  iintro H; imodintro
  isplitl [H]; · iexact H
  iintro H; iexact H

end Cert.Proof.Run

end
-- ==== Proof.Call.lean ====
/-
  The SparseCore call seen from @main: the two tables, the two index arrays and the two results, held whole, are dealt to the
  thirty-two tasks and come back whole, the results at the products and the labels.
-/
module

public import proofs.«01_k».proof.Proof.Common

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tasks, numbered -/

/-- A pair of a SparseCore and a tile is a task's number, each number once. -/
def tkEquiv : Fin 2 × Fin 16 ≃ Fin 32 where
  toFun p := tk p.1 p.2
  invFun k := (⟨k.val % 2, Nat.mod_lt _ (by decide)⟩, ⟨k.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv k := Fin.ext (by show 2 * (k.val / 2) + k.val % 2 = k.val; omega)

/-- A resource per tile of each SparseCore is a resource per task. -/
theorem bigSep_tasks (Φ : Fin 32 → sProp 𝕄) :
    (bigSep Finset.univ fun c : Fin ((K (F := F)).nCore 0) => bigSep Finset.univ fun i : Fin 16 => Φ (tk (Fin.cast nCore_zero c) i))
      = bigSep Finset.univ Φ := by
  rw [bigSep_univ_equiv tkEquiv Φ, bigSep_univ_prod]
  exact bigSep_congr fun c _ => bigSep_congr fun i _ => congrArg Φ rfl

/-! ## Whole arrays and the tasks' rows -/

theorem rows_disjoint : ∀ k ∈ (Finset.univ : Finset (Fin 32)), ∀ k' ∈ (Finset.univ : Finset (Fin 32)), k ≠ k' → Disjoint (rowSet k) (rowSet k') :=
  fun _ _ _ _ hne => Rect.part_disjoint rdiv hne
theorem rows_cover : (Finset.univ : Finset (Fin 32)).biUnion rowSet = Finset.univ := Rect.biUnion_part rdiv

theorem rows_h (d : Dev nD) (f : Buf (Elt F) (hLoc d)) : (hLoc d ↦{fullShare} f : sProp 𝕄) = bigSep Finset.univ fun k : Fin 32 => hLoc d ↦[rowSet k]{fullShare} f := by
  rw [← pointsTo_biUnion Finset.univ (ℓ := hLoc d) rowSet rows_disjoint, rows_cover]; try rfl
theorem rows_o (d : Dev nD) (f : Buf (Elt F) (oLoc d)) : (oLoc d ↦{fullShare} f : sProp 𝕄) = bigSep Finset.univ fun k : Fin 32 => oLoc d ↦[rowSet k]{fullShare} f := by
  rw [← pointsTo_biUnion Finset.univ (ℓ := oLoc d) rowSet rows_disjoint, rows_cover]; try rfl
theorem rows_p (d : Dev nD) (f : Buf (Elt F) (pLoc d)) : (pLoc d ↦{fullShare} f : sProp 𝕄) = bigSep Finset.univ fun k : Fin 32 => pLoc d ↦[rowSet k]{fullShare} f := by
  rw [← pointsTo_biUnion Finset.univ (ℓ := pLoc d) rowSet rows_disjoint, rows_cover]; try rfl
theorem rows_c (d : Dev nD) (f : Buf (Elt F) (cLoc d)) : (cLoc d ↦{fullShare} f : sProp 𝕄) = bigSep Finset.univ fun k : Fin 32 => cLoc d ↦[rowSet k]{fullShare} f := by
  rw [← pointsTo_biUnion Finset.univ (ℓ := cLoc d) rowSet rows_disjoint, rows_cover]; try rfl

/-! ## The call -/

variable [FloatOps F]
variable (m : (ℓ : Loc nD τ sig) → Buf (Elt F) ℓ) (hI oI : Dev nD → S4096.Idx → BitVec 32)

/-- What the call takes from @main. -/
def callIn (d : Dev nD) : sProp 𝕄 :=
  iprop((sLoc d ↦{fullShare} m (sLoc d)) ∗ (lLoc d ↦{fullShare} m (lLoc d)) ∗ (hLoc d ↦{fullShare} (hI d : Buf (Elt F) (hLoc d)))
    ∗ (oLoc d ↦{fullShare} (oI d : Buf (Elt F) (oLoc d))) ∗ (pLoc d ↦{fullShare} m (pLoc d)) ∗ cLoc d ↦{fullShare} m (cLoc d))
/-- What it leaves. -/
def callOut (d : Dev nD) : sProp 𝕄 :=
  iprop((sLoc d ↦{fullShare} m (sLoc d)) ∗ (lLoc d ↦{fullShare} m (lLoc d)) ∗ (hLoc d ↦{fullShare} (hI d : Buf (Elt F) (hLoc d)))
    ∗ (oLoc d ↦{fullShare} (oI d : Buf (Elt F) (oLoc d))) ∗ (pLoc d ↦{fullShare} prodAll m hI oI d) ∗ cLoc d ↦{fullShare} clsAll m oI d)

theorem st0_eq (d : Dev nD) : (bigSep Finset.univ fun c : Fin ((K (F := F)).nCore 0) => (P m hI oI).st 0 d c) = bigSep Finset.univ (goK m hI oI d) :=
  bigSep_tasks (goK m hI oI d)
theorem dn0_eq (d : Dev nD) : (bigSep Finset.univ fun c : Fin ((K (F := F)).nCore 0) => (P m hI oI).dn 0 d c) = bigSep Finset.univ (tdK m hI oI d) :=
  bigSep_tasks (tdK m hI oI d)

/-- The whole buffers are dealt to the tasks, and what the tasks bring back is whole again. -/
theorem call_split (d : Dev nD) : callIn m hI oI d ⊢ iprop((bigSep Finset.univ fun c : Fin ((K (F := F)).nCore 0) => (P m hI oI).st 0 d c)
    ∗ ((bigSep Finset.univ fun c : Fin ((K (F := F)).nCore 0) => (P m hI oI).dn 0 d c) -∗ callOut m hI oI d)) := by
  rw [st0_eq, dn0_eq]
  unfold callIn callOut
  rw [show goK m hI oI d = fun k => _ from funext fun k => by unfold goK; rfl, show tdK m hI oI d = fun k => _ from funext fun k => by unfold tdK; rfl]
  rw [bigSep_sep', bigSep_sep', bigSep_sep', bigSep_sep', bigSep_sep', bigSep_sep', bigSep_sep', bigSep_sep', bigSep_sep', bigSep_sep',
    rows_h, rows_o, rows_p, rows_c, rows_p, rows_c]
  iintro ⟨Hs, Hl, Hh, Ho, Hp, Hc⟩
  ihave Hs' := (Transfers.pointsTo_toks_split (ℓ := sLoc d) (S := Finset.univ) (f := m (sLoc d)) fullShare 32) $$ Hs
  ihave Hl' := (Transfers.pointsTo_toks_split (ℓ := lLoc d) (S := Finset.univ) (f := m (lLoc d)) fullShare 32) $$ Hl
  icases Hs' with ⟨Hsr, Hs⟩
  icases Hl' with ⟨Hlr, Hl⟩
  isplitl [Hs Hl Hh Ho Hp Hc]
  · isplitl [Hs]; · iexact Hs
    isplitl [Hl]; · iexact Hl
    isplitl [Hh]; · iexact Hh
    isplitl [Ho]; · iexact Ho
    isplitl [Hp]; · iexact Hp
    iexact Hc
  iintro ⟨Hs, Hl, Hh, Ho, Hp, Hc⟩
  isplitl [Hs Hsr]
  · iapply (Transfers.pointsTo_toks_join (ℓ := sLoc d) (S := Finset.univ) (f := m (sLoc d)) fullShare 32)
    isplitl [Hsr]; · iexact Hsr
    iexact Hs
  isplitl [Hl Hlr]
  · iapply (Transfers.pointsTo_toks_join (ℓ := lLoc d) (S := Finset.univ) (f := m (lLoc d)) fullShare 32)
    isplitl [Hlr]; · iexact Hlr
    iexact Hl
  isplitl [Hh]; · iexact Hh
  isplitl [Ho]; · iexact Ho
  isplitl [Hp]; · iexact Hp
  iexact Hc

end Cert.Proof.Run

end
-- ==== Proof.Main.lean ====
/-
  @main on the TensorCore, and the launch: the index columns are sliced out, the SparseCore call gathers, the biases and the
  gathered vectors are reshaped, the perceptron's region runs. The run's result: the output array at what the pipeline
  computes from those contents, every argument unchanged, every semaphore at zero.
-/
module

public import proofs.«01_k».proof.Proof.Region
public import proofs.«01_k».proof.Proof.Tile
public import proofs.«01_k».proof.Proof.Call
public import Idealize.ShloMosaic.Lib.Pipeline.Frame
public import Idealize.ShloMosaic.Lib.StableHlo.Run

@[expose] public section

set_option maxRecDepth 16384

noncomputable section

namespace Cert.Proof.Run

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type} [FloatOps F]

local notation "𝕄" => MT nD τ sig (HIx 1) (Elt F) ℕ UU ℕ

/-! ## The host operations -/

/-- Before the call: the two columns of the pairs, as vectors. -/
abbrev hostOps0 : List (HloOp τ sig (Elt F)) := [
    StableHlo.unary main_arg3 main_v0 ((extractStridedSlice S4096x1 ![0, 0] · slices_S4096x2_S4096x1_0_0) : (⟨S4096x2, .i32⟩ : BufTy).Contents (Elt F) → (⟨S4096x1, .i32⟩ : BufTy).Contents (Elt F)),
    StableHlo.reshape main_v0 main_v1 (rfl : (.i32 : EltTy) = .i32) shapeCasts_S4096x1_S4096,
    StableHlo.unary main_arg3 main_v2 ((extractStridedSlice S4096x1 ![0, 1] · slices_S4096x2_S4096x1_0_1) : (⟨S4096x2, .i32⟩ : BufTy).Contents (Elt F) → (⟨S4096x1, .i32⟩ : BufTy).Contents (Elt F)),
    StableHlo.reshape main_v2 main_v3 (rfl : (.i32 : EltTy) = .i32) shapeCasts_S4096x1_S4096]

/-- After it: the gathered vectors as columns, the biases as rows. -/
abbrev hostOps1 : List (HloOp τ sig (Elt F)) := [
    StableHlo.reshape main_v4_0 main_v5 (rfl : (.f32 : EltTy) = .f32) shapeCasts_S4096_S4096x1,
    StableHlo.reshape main_v4_1 main_v6 (rfl : (.i32 : EltTy) = .i32) shapeCasts_S4096_S4096x1,
    StableHlo.reshape main_arg5 main_v7 (rfl : (.f32 : EltTy) = .f32) shapeCasts_S1024_S1x1024,
    StableHlo.reshape main_arg7 main_v8 (rfl : (.f32 : EltTy) = .f32) shapeCasts_S1024_S1x1024,
    StableHlo.reshape main_arg9 main_v9 (rfl : (.f32 : EltTy) = .f32) shapeCasts_S600_S1x600]

set_option maxHeartbeats 1000000 in
/-- @main is the first operations, the call, the other operations, the region. -/
theorem main_eq (d : Dev nD) : main (F := F) d = (StableHlo.seq hostOps0 >>= fun _ => (K (F := F)).run d 0 >>= fun _ =>
    StableHlo.seq hostOps1 >>= fun _ => SparseCore.liftProg (.op (.customCall (Pipeline.entry 0) ()) .ret)) := by
  unfold main
  simp only [StableHlo.seq, bind_assoc, pure_bind]
  rfl

theorem sub0 : ∀ op ∈ (hostOps0 (F := F)), op.bufs ⊆ Pipeline.ucRefs τ sig := by
  intro op h; refine Pipeline.sub_ucRefs op ?_
  simp only [List.mem_cons, List.mem_nil_iff, or_false] at h
  rcases h with rfl | rfl | rfl | rfl <;> first | exact StableHlo.unary_bufs_sub _ _ _ _ _ | exact StableHlo.reshape_bufs_sub _ _ _ _ _ _
theorem sub1 : ∀ op ∈ (hostOps1 (F := F)), op.bufs ⊆ Pipeline.ucRefs τ sig := by
  intro op h; refine Pipeline.sub_ucRefs op ?_
  simp only [List.mem_cons, List.mem_nil_iff, or_false] at h
  rcases h with rfl | rfl | rfl | rfl | rfl <;> exact StableHlo.reshape_bufs_sub _ _ _ _ _ _
theorem fresh0 : ∀ op ∈ (hostOps0 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

/-- The buffers the first operations leave alone. -/
theorem not_written0 (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›
/-- The buffers the other operations leave alone. -/
theorem not_written1 (b : Ref sig .tc) (hb : b ≠ main_v5 ∧ b ≠ main_v6 ∧ b ≠ main_v7 ∧ b ≠ main_v8 ∧ b ≠ main_v9) :
    ∀ op ∈ (hostOps1 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.reshape_writes, Finset.mem_singleton] <;>
    exact StableHlo.devRef_ne_of_ne ‹_›

/-! ## The contents of the TensorCore's buffers, stage by stage -/

variable (m : (ℓ : Loc nD τ sig) → Buf (Elt F) ℓ) (ρ : Dev nD → PrngReg)

/-- At launch; -/
def V₀ (d : Dev nD) : Valuation τ sig (Elt F) := fun b => m (d, b)
/-- after the first operations; -/
def V₁ (d : Dev nD) : Valuation τ sig (Elt F) := after hostOps0 (V₀ m d)

/-- the subjects' and the objects' box numbers; -/
def hI (d : Dev nD) : S4096.Idx → BitVec 32 := V₁ m d (Proc.devRef .tc main_v1)
def oI (d : Dev nD) : S4096.Idx → BitVec 32 := V₁ m d (Proc.devRef .tc main_v3)

/-- after the call; -/
def V₂ (d : Dev nD) : Valuation τ sig (Elt F) :=
  Function.update (Function.update (V₁ m d) (Proc.devRef .tc main_v4_0) (prodAll m (hI m) (oI m) d)) (Proc.devRef .tc main_v4_1) (clsAll m (oI m) d)
/-- when the region is entered. -/
def V₃ (d : Dev nD) : Valuation τ sig (Elt F) := after hostOps1 (V₂ m d)

/-- The same as contents of the TensorCore's references. -/
def A₃ : Bufs F := fun d b => V₃ m d (Proc.devRef .tc b)

theorem V₁_eq (d : Dev nD) (b : Ref sig .tc) (hb : b ≠ main_v0 ∧ b ≠ main_v1 ∧ b ≠ main_v2 ∧ b ≠ main_v3) : V₁ m d (Proc.devRef .tc b) = m ((SparseCore.T d).loc b) := by
  unfold V₁; rw [StableHlo.after_of_forall_not_mem (b := Proc.devRef .tc b) hostOps0 (V₀ m d) (not_written0 b hb)]; rfl
theorem V₂_eq (d : Dev nD) (b : Ref sig .tc) (hb : b ≠ main_v4_0 ∧ b ≠ main_v4_1) : V₂ m d (Proc.devRef .tc b) = V₁ m d (Proc.devRef .tc b) := by
  unfold V₂; rw [Function.update_of_ne (StableHlo.devRef_ne_of_ne hb.2), Function.update_of_ne (StableHlo.devRef_ne_of_ne hb.1)]
theorem V₃_eq (d : Dev nD) (b : Ref sig .tc) (hb : b ≠ main_v5 ∧ b ≠ main_v6 ∧ b ≠ main_v7 ∧ b ≠ main_v8 ∧ b ≠ main_v9) :
    V₃ m d (Proc.devRef .tc b) = V₂ m d (Proc.devRef .tc b) := by
  unfold V₃; exact StableHlo.after_of_forall_not_mem (b := Proc.devRef .tc b) hostOps1 (V₂ m d) (not_written1 b hb)

/-! ## The call's buffers among the TensorCore's -/

/-- The six buffers the call is handed. -/
def callRefs : Finset (DevRef τ sig) := {Proc.devRef .tc main_arg1, Proc.devRef .tc main_arg2, Proc.devRef .tc main_v1, Proc.devRef .tc main_v3,
  Proc.devRef .tc main_v4_0, Proc.devRef .tc main_v4_1}
theorem callRefs_sub : callRefs ⊆ Pipeline.ucRefs τ sig := by decide

theorem held_six (d : Dev nD) (V : Valuation τ sig (Elt F)) : (held (T d : Thread nD τ) callRefs V : sProp 𝕄)
    = iprop((sLoc d ↦{fullShare} V (Proc.devRef .tc main_arg1)) ∗ (lLoc d ↦{fullShare} V (Proc.devRef .tc main_arg2)) ∗ (hLoc d ↦{fullShare} V (Proc.devRef .tc main_v1))
      ∗ (oLoc d ↦{fullShare} V (Proc.devRef .tc main_v3)) ∗ (pLoc d ↦{fullShare} V (Proc.devRef .tc main_v4_0)) ∗ cLoc d ↦{fullShare} V (Proc.devRef .tc main_v4_1)) := by
  unfold held callRefs
  rw [SparseCore.bigSep_insert' (by decide), SparseCore.bigSep_insert' (by decide), SparseCore.bigSep_insert' (by decide), SparseCore.bigSep_insert' (by decide),
    SparseCore.bigSep_insert' (by decide), bigSep_singleton]

theorem held_in (d : Dev nD) : (held (T d : Thread nD τ) callRefs (V₁ m d) : sProp 𝕄) = callIn m (hI m) (oI m) d := by
  rw [held_six]
  unfold callIn
  rw [V₁_eq m d main_arg1 (by decide), V₁_eq m d main_arg2 (by decide), V₁_eq m d main_v4_0 (by decide), V₁_eq m d main_v4_1 (by decide)]
  rfl
theorem held_out (d : Dev nD) : (held (T d : Thread nD τ) callRefs (V₂ m d) : sProp 𝕄) = callOut m (hI m) (oI m) d := by
  rw [held_six]
  unfold callOut
  rw [V₂_eq m d main_arg1 (by decide), V₂_eq m d main_arg2 (by decide), V₂_eq m d main_v1 (by decide), V₂_eq m d main_v3 (by decide),
    V₁_eq m d main_arg1 (by decide), V₁_eq m d main_arg2 (by decide)]
  have h0 : V₂ m d (Proc.devRef .tc main_v4_0) = prodAll m (hI m) (oI m) d := by
    unfold V₂; rw [Function.update_of_ne (StableHlo.devRef_ne_of_ne (by decide)), Function.update_self]
  have h1 : V₂ m d (Proc.devRef .tc main_v4_1) = clsAll m (oI m) d := by unfold V₂; rw [Function.update_self]
  rw [h0, h1]
  rfl
theorem held_rest (d : Dev nD) : (held (T d : Thread nD τ) (Pipeline.ucRefs τ sig \ callRefs) (V₁ m d) : sProp 𝕄) = held (T d : Thread nD τ) (Pipeline.ucRefs τ sig \ callRefs) (V₂ m d) := by
  unfold held
  refine bigSep_congr fun b hb => ?_
  have h0 : b ≠ Proc.devRef .tc main_v4_0 := fun e => (Finset.mem_sdiff.mp hb).2 (by rw [e]; decide)
  have h1 : b ≠ Proc.devRef .tc main_v4_1 := fun e => (Finset.mem_sdiff.mp hb).2 (by rw [e]; decide)
  unfold V₂; rw [Function.update_of_ne h1, Function.update_of_ne h0]

/-! ## @main -/

/-- The pipeline's ghost state on core `d`. -/
def G (d : Dev nD) : sProp 𝕄 := iprop(Pipeline.cellsGhost (Pipeline.pin (pcfgs (F := F)) adm) EP 0 d ∗ Pipeline.toksInit (Pipeline.pin (pcfgs (F := F)) adm) EP 0 d)

/-- What @main leaves to be read: the windows' arrays and the other buffers. -/
def FIN (d : Dev nD) : sProp 𝕄 := iprop((dats (A₃ m) 0 d).arrays ((dats (A₃ m) 0 d).arrAt · cfg1.N) ∗ Pipeline.unscopedRest spec1 d (A₃ m d))

/-- The core's `owes`, taken out of its state after the call and put back. -/
theorem tcSt_owes (d : Dev nD) : ((K (F := F)).tcSt EH d 1 : sProp 𝕄) ⊢ iprop(owesLow d ∗ (owesLow d -∗ (K (F := F)).tcSt EH d 1)) := by
  unfold SparseCore.Cfg.tcSt owesLow
  rw [(K (F := F)).Otc_end d (n := 1) (by decide)]
  iintro ⟨⟨%W, %hW, HO⟩, Hr⟩
  isplitl [HO]
  · iexists W; isplitr; · ipureintro; exact hW
    iexact HO
  iintro ⟨%W', %hW', HO⟩
  isplitl [HO]
  · iexists W'; isplitr; · ipureintro; exact hW'
    iexact HO
  iexact Hr

set_option backward.isDefEq.respectTransparency.types false in
/-- The region on device `d`, in the SparseCore program's body table. -/
theorem region_wp [∀ e, Nonempty (Elt F e)] (κ : GSem nD τ sig → ℕ) (d : Dev nD) (Q : PUnit → sProp 𝕄) :
    iprop((K (F := F)).ctx EH (P m (hI m) (oI m)) κ ∗ boundary (T d) ∗ unscopedBufs d (A₃ m d) ∗ owesLow d ∗ G d
        ∗ ((boundary (T d) ∗ FIN m d ∗ owesLow d) -∗ Q ⟨⟩))
      ⊢ wp frame (wpE ((K (F := F)).defs (D (F := F))) 𝒱 (T d) none) Set.univ
          (SparseCore.liftProg (.op (.customCall (Pipeline.entry 0) ()) .ret)) Q := by
  unfold G
  iintro ⟨#Hctx, Hb, Hub, HO, ⟨Hg, Ht⟩, Hk⟩
  ihave Hlev := (SparseCore.Cfg.ctx_levAts κ) $$ Hctx
  iapply ((K (F := F)).wp_liftProg (D (F := F)) 𝒱 (T d) Set.univ none (.op (.customCall (Pipeline.entry 0) ()) .ret) Q)
  iapply (Pipeline.RegionSeg.wp (pcfgs (F := F)) adm (dats (A₃ m)) none cellOf_inj EP defs₀ 𝒱₀ (K (F := F)).L (K (F := F)).lev (reg (A₃ m)) d none
    (fun _ h => nomatch h) .ret Q)
  isplitl [Hk]
  · iintro ⟨Hb, Hpost⟩
    rw [wp_ret]; imodintro
    iapply Hk
    isplitl [Hb]; · iexact Hb
    ihave Hpost' := (show (reg (A₃ m)).post d ⊢ iprop(FIN m d ∗ owesLow d) from by
      unfold reg FIN; dsimp only
      iintro ⟨Ha, Hr, HO⟩
      isplitr [HO]; · isplitl [Ha] <;> iassumption
      iexact HO) $$ Hpost
    iexact Hpost'
  isplitl [Hb]; · iexact Hb
  isplitl [Hub HO]
  · iapply (show iprop(unscopedBufs d (A₃ m d) ∗ owesLow d) ⊢ (reg (A₃ m)).pre d from by unfold reg; exact .rfl)
    isplitl [Hub]; · iexact Hub
    iexact HO
  isplitl [Hlev]; · iexact Hlev
  isplitl [Hg]; · iexact Hg
  iexact Ht

theorem launch_held (d : Dev nD) : (unscopedBufs d (fun b => m ((SparseCore.T d).loc b)) : sProp 𝕄) = held (SparseCore.T d : Thread nD τ) (Pipeline.ucRefs τ sig) (V₀ m d) :=
  Pipeline.unscopedBufs_held d (V₀ m d)
theorem entry_held (d : Dev nD) : (held (SparseCore.T d : Thread nD τ) (Pipeline.ucRefs τ sig) (after hostOps1 (V₂ m d)) : sProp 𝕄) = unscopedBufs d (A₃ m d) :=
  (Pipeline.unscopedBufs_held d (V₃ m d)).symm
theorem held_before (d : Dev nD) : (held (SparseCore.T d : Thread nD τ) (Pipeline.ucRefs τ sig) (after hostOps0 (V₀ m d)) : sProp 𝕄)
    = iprop(callIn m (hI m) (oI m) d ∗ held (SparseCore.T d : Thread nD τ) (Pipeline.ucRefs τ sig \ callRefs) (V₂ m d)) := by
  rw [← held_in, ← held_rest]; exact StableHlo.held_sub_split (SparseCore.T d : Thread nD τ) callRefs_sub (V₁ m d)
theorem held_after (d : Dev nD) : (held (SparseCore.T d : Thread nD τ) (Pipeline.ucRefs τ sig) (V₂ m d) : sProp 𝕄)
    = iprop(callOut m (hI m) (oI m) d ∗ held (SparseCore.T d : Thread nD τ) (Pipeline.ucRefs τ sig \ callRefs) (V₂ m d)) := by
  rw [← held_out]; exact StableHlo.held_sub_split (SparseCore.T d : Thread nD τ) callRefs_sub (V₂ m d)

set_option backward.isDefEq.respectTransparency.types false in
/-- @main on device `d`'s TensorCore. -/
theorem hmain [∀ e, Nonempty (Elt F e)] (κ : GSem nD τ sig → ℕ) (d : Dev nD) :
    iprop((K (F := F)).ctx EH (P m (hI m) (oI m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, launch_held]
  iintro ⟨#Hctx, Hst, ⟨Hb, Hub, Hts, -⟩, HG⟩
  iapply (StableHlo.wp_seq 𝒱 none Set.univ d (Pipeline.ucRefs τ sig) _ hostOps0 sub0 fresh0 (V₀ m d)) $$ [Hb Hub]
  · isplitl [Hb] <;> iassumption
  iintro ⟨Hb, Hub⟩
  ihave Hub' := (Entails.of_eq (held_before m d)) $$ Hub
  icases Hub' with ⟨Hin, Hrest⟩
  ihave Hin' := (call_split m (hI m) (oI m) d) $$ Hin
  icases Hin' with ⟨Hgo, Hback⟩
  rw [wp_bind]
  iapply ((K (F := F)).wp_run (D (F := F)) 𝒱 (EH := EH) (P := P m (hI m) (oI m)) κ d 0)
  isplitr; · iexact Hctx
  isplitl [Hst]; · iexact Hst
  isplitl [Hgo]; · iexact Hgo
  iintro ⟨Hst, Hdn⟩
  ihave Hout := Hback $$ Hdn
  ihave Hub := (Entails.of_eq (held_after m d).symm) $$ [Hout Hrest]
  · isplitl [Hout] <;> iassumption
  iapply (StableHlo.wp_seq 𝒱 none Set.univ d (Pipeline.ucRefs τ sig) _ hostOps1 sub1 fresh1 (V₂ m d)) $$ [Hb Hub]
  · isplitl [Hb] <;> iassumption
  iintro ⟨Hb, Hub⟩
  ihave Hub' := (Entails.of_eq (entry_held m d)) $$ Hub
  ihave Hst1 := (Entails.of_eq (show ((K (F := F)).tcSt EH d ((0 : Fin 1).val + 1) : sProp 𝕄) = (K (F := F)).tcSt EH d 1 from rfl)) $$ Hst
  ihave Hst' := (tcSt_owes d) $$ Hst1
  icases Hst' with ⟨HO, Hst⟩
  iapply (region_wp m κ d)
  isplitr; · iexact Hctx
  isplitl [Hb]; · iexact Hb
  isplitl [Hub']; · iexact Hub'
  isplitl [HO]; · iexact HO
  isplitl [HG]; · iexact HG
  iintro ⟨Hb, HF, HO⟩
  ihave Hst' := Hst $$ HO
  isplitl [Hst']; · iexact Hst'
  isplitl [HF]; · iexact HF
  isplitl [Hb] <;> iassumption

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (hI m) (oI m)).x q thr) := by
  unfold u₀ G
  iintro Hu
  ihave H := (ownU_pair (initOf (K (F := F)).hsCells (K (F := F)).hsToks) _) $$ Hu
  icases H with ⟨HH, HR⟩
  ihave H := (own_pair_emb (embR : Emb (UP × Counters) 𝕄) _ (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_congr fun d _ => bigSep_univ_of_subsingleton (Φ := fun p : Fin 1 => (Pipeline.cellsGhost (Pipeline.pin (pcfgs (F := F)) adm) EP p d : sProp 𝕄)) (0 : Fin 1)))
      iexact Hg
    · iapply (Entails.of_eq (bigSep_congr fun d _ => bigSep_univ_of_subsingleton (Φ := fun p : Fin 1 => (Pipeline.toksInit (Pipeline.pin (pcfgs (F := F)) adm) EP p d : sProp 𝕄)) (0 : Fin 1)))
      iexact Ht
  rw [show (bigSep Finset.univ fun thr : Thread nD τ => bigSep Finset.univ fun q : Fin 1 => (P m (hI m) (oI m)).x q thr) = bigSep Finset.univ fun _ => (iprop(emp) : sProp 𝕄) from
    bigSep_congr fun _ _ => bigSep_univ_of_subsingleton (0 : Fin 1), show (bigSep Finset.univ fun _ : Thread nD τ => (iprop(emp) : sProp 𝕄)) = iprop(emp) from bigSep_emp_const _]
  iempintro

/-! ## What the last memory holds -/

/-- A buffer no operation writes and the call leaves alone is, at the region's entry, as launched. -/
theorem A₃_eq (d : Dev nD) (b : Ref sig .tc) (h0 : b ≠ main_v0 ∧ b ≠ main_v1 ∧ b ≠ main_v2 ∧ b ≠ main_v3) (h1 : b ≠ main_v4_0 ∧ b ≠ main_v4_1)
    (h2 : b ≠ main_v5 ∧ b ≠ main_v6 ∧ b ≠ main_v7 ∧ b ≠ main_v8 ∧ b ≠ main_v9) : A₃ m d b = m ((SparseCore.T d).loc b) :=
  (V₃_eq m d b h2).trans ((V₂_eq m d b h1).trans (V₁_eq m d b h0))

/-- The output array after the region. -/
def outArr (d : Dev nD) : Buf (Elt F) ((SparseCore.T d : Thread nD τ).loc main_v10) := (dats (A₃ m) 0 d).arrAt 9 cfg1.N

/-- The output holds what the pipeline computes, and every argument what it held at launch. -/
def fq (d : Dev nD) (s' : MemSt nD τ sig (Elt F)) : Prop :=
  s'.mem ((SparseCore.T d).loc main_v10) = outArr m d
    ∧ (s'.mem ((SparseCore.T d).loc main_arg0) = m ((SparseCore.T d).loc main_arg0)
    ∧ s'.mem ((SparseCore.T d).loc main_arg1) = m ((SparseCore.T d).loc main_arg1)
    ∧ s'.mem ((SparseCore.T d).loc main_arg2) = m ((SparseCore.T d).loc main_arg2)
    ∧ s'.mem ((SparseCore.T d).loc main_arg3) = m ((SparseCore.T d).loc main_arg3)
    ∧ s'.mem ((SparseCore.T d).loc main_arg4) = m ((SparseCore.T d).loc main_arg4)
    ∧ s'.mem ((SparseCore.T d).loc main_arg5) = m ((SparseCore.T d).loc main_arg5)
    ∧ s'.mem ((SparseCore.T d).loc main_arg6) = m ((SparseCore.T d).loc main_arg6)
    ∧ s'.mem ((SparseCore.T d).loc main_arg7) = m ((SparseCore.T d).loc main_arg7)
    ∧ s'.mem ((SparseCore.T d).loc main_arg8) = m ((SparseCore.T d).loc main_arg8)
    ∧ s'.mem ((SparseCore.T d).loc main_arg9) = m ((SparseCore.T d).loc main_arg9))

theorem arr_in (d : Dev nD) (s' : MemSt nD τ sig (Elt F)) (ha : ∀ w : Fin cfg1.W, s'.mem ((cfg1.win w).arr.view.loc (d : Thread nD τ)) = (dats (A₃ m) 0 d).arrAt w cfg1.N) :
    s'.mem ((SparseCore.T d).loc main_arg0) = m ((SparseCore.T d).loc main_arg0) ∧ s'.mem ((SparseCore.T d).loc main_arg4) = m ((SparseCore.T d).loc main_arg4)
      ∧ s'.mem ((SparseCore.T d).loc main_arg6) = m ((SparseCore.T d).loc main_arg6) ∧ s'.mem ((SparseCore.T d).loc main_arg8) = m ((SparseCore.T d).loc main_arg8) := by
  refine ⟨?_, ?_, ?_, ?_⟩
  · exact (ha 2).trans (((dats (A₃ m) 0 d).arrAt_in 2 rfl _).trans ((A_eq (A₃ m) d 2).trans (A₃_eq m d main_arg0 (by decide) (by decide) (by decide))))
  · exact (ha 3).trans (((dats (A₃ m) 0 d).arrAt_in 3 rfl _).trans ((A_eq (A₃ m) d 3).trans (A₃_eq m d main_arg4 (by decide) (by decide) (by decide))))
  · exact (ha 5).trans (((dats (A₃ m) 0 d).arrAt_in 5 rfl _).trans ((A_eq (A₃ m) d 5).trans (A₃_eq m d main_arg6 (by decide) (by decide) (by decide))))
  · exact (ha 7).trans (((dats (A₃ m) 0 d).arrAt_in 7 rfl _).trans ((A_eq (A₃ m) d 7).trans (A₃_eq m d main_arg8 (by decide) (by decide) (by decide))))

theorem hfin (d : Dev nD) (s' : Phys nD τ sig (Elt F)) : iprop(FIN m d ∗ SI s') ⊢ (⌜fq m d s'.mem⌝ : sProp 𝕄) := by
  unfold FIN
  rw [unscopedRest1_eq]
  rw [A₃_eq m d main_arg1 (by decide) (by decide) (by decide), A₃_eq m d main_arg2 (by decide) (by decide) (by decide), A₃_eq m d main_arg3 (by decide) (by decide) (by decide),
    A₃_eq m d main_arg5 (by decide) (by decide) (by decide), A₃_eq m d main_arg7 (by decide) (by decide) (by decide), A₃_eq m d main_arg9 (by decide) (by decide) (by decide)]
  iintro ⟨⟨Ha, H1, H2, H3, H5, H7, H9, -⟩, HSI⟩
  ihave Hr := (Pipeline.arrays_read (pcfgs (F := F)) adm (dats (A₃ m)) launch1.arr_whole d ((dats (A₃ m) 0 d).share_full fun _ => rfl) _ s') $$ [Ha HSI]
  · isplitl [Ha] <;> iassumption
  icases Hr with ⟨%ha, HSI⟩
  icombine HSI H1 gives %h1
  icombine HSI H2 gives %h2
  icombine HSI H3 gives %h3
  icombine HSI H5 gives %h5
  icombine HSI H7 gives %h7
  icombine HSI H9 gives %h9
  ipureintro
  obtain ⟨a0, a4, a6, a8⟩ := arr_in m d s'.mem ha
  exact ⟨ha 9, a0, Buf.eq_of_forall_mem_univ h1, Buf.eq_of_forall_mem_univ h2, Buf.eq_of_forall_mem_univ h3, a4, Buf.eq_of_forall_mem_univ h5, a6,
    Buf.eq_of_forall_mem_univ h7, a8, Buf.eq_of_forall_mem_univ h9⟩

/-! ## The run -/

def QC : PUnit × MemSt nD τ sig (Elt F) → Prop := fun r => (∀ d : Dev nD, fq m d r.2) ∧ r.2.sem = fun _ => 0

/-- For any float values: from any memory whose box numbers name boxes, every weakly fair execution terminates, with the output at what the pipeline
    computes, the arguments unchanged and every semaphore at zero. -/
theorem run_main [∀ e, Nonempty (Elt F e)] (hpre : PreOK (hI m) (oI m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (hI m) (oI m)) (A := ∅) facts v₀
    (fun q hq => match q with | 0 => nomatch hq)
    (fun q _ => match q with | 0 => tileObl m (hI m) (oI m) facts hpre)
    (fun q _ => match q with | 0 => SparseCore.Cfg.VecSplit.of_plain (vecSplit m (hI m) (oI m)))
    m ρ main (G (F := F)) (FIN m) (u₀ (F := F)) (sep_elim_left.trans (hu₀ m)) (hmain m ρ) (fun d s' => fq m d s'.mem) (hfin m) (QC m) (fun _ h hz => ⟨h, hz⟩)

end Cert.Proof.Run

end
-- ==== Proof.Frames.lean ====
/-
  The frames: what the precondition says of the index arrays, and the run read as the frame of the kernel at either instance.
-/
module

public import proofs.«01_k».proof.Proof.Main
public import proofs.«01_k».proof.Defs
public import proofs.«01_k».proof.Proof.Gen.ReferenceIdeal.Run
public import proofs.«01_k».proof.Proof.Gen.Kernel
public import proofs.«01_k».proof.Proof.Gen.Pre_in_range
public import Idealize.ShloMosaic.Lib.ReduceAll
public import Idealize.ShloMosaic.Adequacy
public import Idealize.ShloMosaic.Init

@[expose] public section

set_option maxRecDepth 16384

noncomputable section

namespace Cert.Proof.Run

open Cert.KernelIdeal Cert.KernelIdeal.Gen

open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- The subjects' box numbers are the pairs' first column, the objects' the second. -/
theorem hI_eq (d : Dev nD) : hI m d = shapeCast S4096 (extractStridedSlice S4096x1 ![0, 0] (m ((SparseCore.T d).loc main_arg3) : IVec S4096x2 32) slices_S4096x2_S4096x1_0_0) shapeCasts_S4096x1_S4096 := by
  unfold hI V₁
  simp only [hostOps0, TRef.binary, TRef.nullary, TRef.ternary, TRef.unary, TRef.toBuf, TRef.ofBuf, cast_eq]; after_results_simp <;> rfl
theorem oI_eq (d : Dev nD) : oI m d = shapeCast S4096 (extractStridedSlice S4096x1 ![0, 1] (m ((SparseCore.T d).loc main_arg3) : IVec S4096x2 32) slices_S4096x2_S4096x1_0_1) shapeCasts_S4096x1_S4096 := by
  unfold oI V₁
  simp only [hostOps0, TRef.binary, TRef.nullary, TRef.ternary, TRef.unary, TRef.toBuf, TRef.ofBuf, cast_eq]; after_results_simp <;> rfl

/-- The two integer ranges, of a memory's labels and pairs. -/
def InRange : Prop := ∀ d : Dev nD, (∀ j : S5000.Idx, (m ((SparseCore.T d).loc main_arg2) j : BitVec 32).toNat < 80)
  ∧ ∀ j : S4096x2.Idx, (m ((SparseCore.T d).loc main_arg3) j : BitVec 32).toNat < 5000

theorem word_in (v : BitVec 32) (n : ℕ) (hn : n < 2 ^ 31) (h0 : (0#32).toInt ≤ v.toInt) (h1 : v.toInt < (BitVec.ofNat 32 n).toInt) : v.toNat < n := by
  simp only [BitVec.toInt_eq_toNat_cond, BitVec.toNat_ofNat, Nat.reducePow] at h0 h1
  omega

/-- The predicate's value one, read at every element. -/
theorem range_of_fn (a0 : FVec F S4096x12544 .f32) (a1 : FVec F S5000 .f32) (a2 : IVec S5000 32) (a3 : IVec S4096x2 32) (a4 : FVec F S12544x1024 .f32) (a5 : FVec F S1024 .f32)
    (a6 : FVec F S1024x1024 .f32) (a7 : FVec F S1024 .f32) (a8 : FVec F S1024x600 .f32) (a9 : FVec F S600 .f32)
    (h : Cert.Pre_in_range.fn (F := F) a0 a1 a2 a3 a4 a5 a6 a7 a8 a9 = fun _ => 1#1) : (∀ j, (a2 j).toNat < 80) ∧ ∀ j, (a3 j).toNat < 5000 := by
  have andi1 : ∀ p q : BitVec 1, IntOp.andi p q = 1#1 → p = 1#1 ∧ q = 1#1 := by decide
  have h0 := congrFun h (fun a => a.elim0)
  simp only [Cert.Pre_in_range.fn] at h0
  obtain ⟨h1, hd⟩ := andi1 _ _ h0
  obtain ⟨h2, hc⟩ := andi1 _ _ h1
  obtain ⟨ha, hb⟩ := andi1 _ _ h2
  refine ⟨fun j => ?_, fun j => ?_⟩
  · exact word_in (a2 j) 80 (by decide) (IntOp.cmpi_sge.1 (Host.reduce_andi_all _ _ _ _ _ ha j)) (IntOp.cmpi_slt.1 (Host.reduce_andi_all _ _ _ _ _ hb j))
  · exact word_in (a3 j) 5000 (by decide) (IntOp.cmpi_sge.1 (Host.reduce_andi_all _ _ _ _ _ hc j)) (IntOp.cmpi_slt.1 (Host.reduce_andi_all _ _ _ _ _ hd j))

/-- In range, every box number names a box. -/
theorem preOK_of_range (h : InRange m) : PreOK (hI m) (oI m) := fun d j => by
  rw [hI_eq, oI_eq]
  exact ⟨(h d).2 _, (h d).2 _⟩

theorem range_ideal (m : (ℓ : Loc nD τ sig) → Buf (Elt Ideal) ℓ) (h : Cert.Pre_KernelIdeal m) : InRange m := fun d => range_of_fn _ _ _ _ _ _ _ _ _ _ (h d)

/-- The two printed programs have the same bodies … -/
theorem bodies_same : Cert.Kernel.defs₀ (F := Bits) = Cert.KernelIdeal.defs₀ (F := Bits) := by
  funext p ℓ a
  cases p <;> (revert a; fin_cases ℓ) <;> intro a <;> rfl

/-- … so the same body tables … -/
theorem defs_same : Cert.Kernel.defs (F := Bits) = Cert.KernelIdeal.defs (F := Bits) :=
  congrArg (fun d => Cert.KernelIdeal.sc.defs (Pipeline.defs (Cert.KernelIdeal.pcfgs (F := Bits)) d)) bodies_same

/-- … and the same threads. -/
theorem threads_same : (Cert.Kernel.threads (F := Bits)) = Cert.KernelIdeal.threads (F := Bits) := rfl

/-- The kernel as printed, on bits: the same program, so the same run. -/
theorem frame_kernel : Cert.quiescent_Kernel :=  by
  intro m ρ hpre
  rw [defs_same, threads_same]
  exact (θ_run Cert.KernelIdeal.defs _ _).mono (fun _ h => ⟨fun c => (h.1 c).2, h.2⟩)
    (run_main (F := Bits) m ρ (preOK_of_range m fun d => range_of_fn _ _ _ _ _ _ _ _ _ _ (hpre d)))

/-- The kernel at the extended reals. -/
theorem frame_ideal : Cert.quiescent_KernelIdeal := fun m ρ hpre =>
  (θ_run Cert.KernelIdeal.defs _ _).mono (fun _ h => ⟨fun c => (h.1 c).2, h.2⟩)
    (run_main (F := Ideal) m ρ (preOK_of_range m (range_ideal m hpre)))

/-! ## The reference -/

/-- The reference has no semaphore, so its counters end as they began. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Proof.Run

end
-- ==== Proof.Plain.lean ====
/-
  The mathematics of the pair scores, written plainly: three linear layers and a logistic, times the product of the two
  boxes' scores in the column of the object's class.
-/
module

public import Idealize.ShloMosaic.Lib.ValueIdx
public import Idealize.ShloMosaic.Lib.Pointwise

@[expose] public section

noncomputable section

namespace Cert.Proof.Plain

open Idealize.ShloMosaic

/-- Matrices and vectors of extended reals. -/
abbrev Mat (a b : ℕ) := (⟨2, ![a, b]⟩ : Shape).Idx → EReal
abbrev Row (a : ℕ) := (⟨1, ![a]⟩ : Shape).Idx → EReal

/-- One element of a linear layer: a row's product with a column, and the column's bias. -/
def lin {K N : ℕ} (x : Fin K → EReal) (W : Mat K N) (b : Row N) (c : Fin N) : EReal := (∑ k : Fin K, x k * W (ix2 k c)) + b (ix1 c)

/-- The first hidden layer of a row. -/
def hid1 (x : Mat 4096 12544) (W1 : Mat 12544 1024) (b1 : Row 1024) (r : Fin 4096) (c : Fin 1024) : EReal :=
  max (lin (fun k => x (ix2 r k)) W1 b1 c) 0

/-- The second hidden layer, of the first. -/
def hid2 (h : Fin 1024 → EReal) (W2 : Mat 1024 1024) (b2 : Row 1024) (c : Fin 1024) : EReal := max (lin h W2 b2 c) 0

/-- The logistic of a logit. -/
def prob (z : EReal) : EReal := Ideal.div 1 (1 + Ideal.exp (-z))

/-- A box number in range, as the place of its box. -/
def box (v : BitVec 32) : (⟨1, ![5000]⟩ : Shape).Idx := ix1 ⟨v.toNat % 5000, Nat.mod_lt _ (by decide)⟩

/-- The classifier's probability for a pair and a class. -/
def cell (x : Mat 4096 12544) (W1 : Mat 12544 1024) (b1 : Row 1024) (W2 : Mat 1024 1024) (b2 : Row 1024) (W3 : Mat 1024 600) (b3 : Row 600)
    (r : Fin 4096) (c : Fin 600) : EReal :=
  prob (lin (hid2 (hid1 x W1 b1 r) W2 b2) W3 b3 c)

/-- The pair's score: that probability times the boxes' scores where the class is the object's, and zero elsewhere. -/
def score (p : EReal) (s : Row 5000) (l : (⟨1, ![5000]⟩ : Shape).Idx → BitVec 32) (h o : BitVec 32) (c : Fin 600) : EReal :=
  if (l (box o)).toNat = c.val then p * (s (box h) * s (box o)) else 0

end Cert.Proof.Plain

end
-- ==== Proof.Block.lean ====
/-
  What the TensorCore body's values are at the extended reals, element by element.
-/
module

public import proofs.«01_k».proof.Proof.Body
public import proofs.«01_k».proof.Proof.Plain

@[expose] public section

set_option maxRecDepth 16384

noncomputable section

namespace Cert.Proof.Run

open Cert.KernelIdeal Cert.KernelIdeal.Gen
open Idealize.ShloMosaic

/-- What a point's first store puts into the accumulator: the product of its two blocks. -/
theorem pay2_apply (x : FVec Ideal S2048x896 .f32) (w : FVec Ideal S896x1024 .f32) (r : Fin 2048) (c : Fin 1024) :
    k1_pay2 (F := Ideal) x w (ix2 r c) = ∑ k : Fin 896, x (ix2 r k) * w (ix2 k c) := by
  pointwise [k1_pay2, k1_pay1]

/-- What a later point's store puts there: that product added to what the accumulator held. -/
theorem pay3_apply (x : FVec Ideal S2048x896 .f32) (w : FVec Ideal S896x1024 .f32) (a : FVec Ideal S2048x1024 .f32) (r : Fin 2048) (c : Fin 1024) :
    k1_pay3 (F := Ideal) x w a (ix2 r c) = a (ix2 r c) + ∑ k : Fin 896, x (ix2 r k) * w (ix2 k c) := by
  pointwise [k1_pay3, k1_pay1]

/-- A chunk of 256 rows of the results: where the column is the row's class, the logistic of the two last layers times the
    row's product of scores, and zero elsewhere. -/
theorem pay7_apply (W2 : FVec Ideal S1024x1024 .f32) (W3 : FVec Ideal S1024x600 .f32) (a : FVec Ideal S256x1024 .f32) (b1 b2 : FVec Ideal S1x1024 .f32)
    (b3 : FVec Ideal S1x600 .f32) (cls : IVec S256x1 32) (prod : FVec Ideal S256x1 .f32) (r : Fin 256) (c : Fin 600) :
    k1_pay7 (F := Ideal) W2 W3 a b1 b2 b3 cls prod (ix2 r c)
      = if (cls (ix2 r 0)).toNat = c.val
        then Plain.prob (Plain.lin (Plain.hid2 (fun k => max (a (ix2 r k) + b1 (ix2 0 k)) 0) W2 (fun i => b2 (ix2 0 (i 0)))) W3 (fun i => b3 (ix2 0 (i 0))) c) * prod (ix2 r 0)
        else 0 := by
  pointwise [k1_pay7, Plain.prob, Plain.lin, Plain.hid2]
  have h5 : k1_pay5 (F := Ideal) W2 = W2 := rfl
  have h6 : k1_pay6 (F := Ideal) W3 = W3 := rfl
  rw [h5, h6]
  have hc := c.isLt
  have hsel : ∀ u : EReal, Scalar.select (IntOp.cmpi CmpIPredicate.eq (BitVec.ofNat 32 c.val) (cls (ix2 r 0))) u 0 = if (cls (ix2 r 0)).toNat = c.val then u else 0 := fun u => by
    by_cases h : (cls (ix2 r 0)).toNat = c.val
    · have he : BitVec.ofNat 32 c.val = cls (ix2 r 0) := BitVec.eq_of_toNat_eq (by rw [BitVec.toNat_ofNat]; omega)
      rw [if_pos h, he]
      simp [IntOp.cmpi, Scalar.select]
    · have hn : (BitVec.ofNat 32 c.val == cls (ix2 r 0)) = false := beq_false_of_ne fun e => h (by rw [← e, BitVec.toNat_ofNat]; omega)
      rw [if_neg h]
      simp [IntOp.cmpi, Scalar.select, hn]
  exact hsel _

end Cert.Proof.Run

end
-- ==== Proof.Array.lean ====
/-
  The blocks of the TensorCore call's windows, and the accumulator after a row's last point.
-/
module

public import proofs.«01_k».proof.Proof.Region
public import proofs.«01_k».proof.Proof.Block
public import Idealize.ShloMosaic.Lib.Pipeline.ValueKit

@[expose] public section

set_option maxRecDepth 16384

noncomputable section

namespace Cert.Proof.Run

open Cert.KernelIdeal Cert.KernelIdeal.Gen
open Idealize.ShloMosaic Idealize.ShloMosaic.TcCoe

/-! ## Where the blocks lie -/

/-- The block each window has at a point: fourteen points per block of rows. -/
theorem idx_0 : ∀ t : Fin cfg1.N, win1_0.index t = ![t.val / 14, 0] := (by decide +kernel : ∀ t : Fin grid1.N, _)
theorem idx_1 : ∀ t : Fin cfg1.N, win1_1.index t = ![t.val / 14, 0] := (by decide +kernel : ∀ t : Fin grid1.N, _)
theorem idx_2 : ∀ t : Fin cfg1.N, win1_2.index t = ![t.val / 14, t.val % 14] := (by decide +kernel : ∀ t : Fin grid1.N, _)
theorem idx_3 : ∀ t : Fin cfg1.N, win1_3.index t = ![t.val % 14, 0] := (by decide +kernel : ∀ t : Fin grid1.N, _)
theorem idx_4 : ∀ t : Fin cfg1.N, win1_4.index t = ![0, 0] := (by decide +kernel : ∀ t : Fin grid1.N, _)
theorem idx_5 : ∀ t : Fin cfg1.N, win1_5.index t = ![0, 0] := (by decide +kernel : ∀ t : Fin grid1.N, _)
theorem idx_6 : ∀ t : Fin cfg1.N, win1_6.index t = ![0, 0] := (by decide +kernel : ∀ t : Fin grid1.N, _)
theorem idx_7 : ∀ t : Fin cfg1.N, win1_7.index t = ![0, 0] := (by decide +kernel : ∀ t : Fin grid1.N, _)
theorem idx_8 : ∀ t : Fin cfg1.N, win1_8.index t = ![0, 0] := (by decide +kernel : ∀ t : Fin grid1.N, _)
theorem idx_9 : ∀ t : Fin cfg1.N, win1_9.index t = ![t.val / 14, 0] := (by decide +kernel : ∀ t : Fin grid1.N, _)

/-- The blocks written back cover the output. -/
theorem covers_9 : win1_9.Covers := by decide +kernel

theorem N_cfg : cfg1.N = 28 := N_1

variable (A : Bufs Ideal) (c : Dev nD)

/-- The row of the whole array that row `r` of a point's block is. -/
def rowAt (t : Fin cfg1.N) (r : Fin 2048) : Fin 4096 := ⟨2048 * (t.val / 14) + r.val, by have := t.isLt; have := N_cfg; omega⟩
/-- The place in the whole contraction that place `k` of a point's block is. -/
def depthAt (t : Fin cfg1.N) (k : Fin 896) : Fin 12544 := ⟨896 * (t.val % 14) + k.val, by omega⟩

/-- Each input's block, as elements of its array; the last five are the whole arrays. -/
theorem blk_0 (t : Fin cfg1.N) (r : Fin 2048) (k : Fin 1) : iblk A c 0 t (ix2 r k) = A c main_v5 (ix2 (rowAt t r) k) := by
  blk_simp [iblk]; exact congrArg _ (by blk_ext [idx_0, rowAt])
theorem blk_1 (t : Fin cfg1.N) (r : Fin 2048) (k : Fin 1) : iblk A c 1 t (ix2 r k) = A c main_v6 (ix2 (rowAt t r) k) := by
  blk_simp [iblk]; exact congrArg _ (by blk_ext [idx_1, rowAt])
theorem blk_2 (t : Fin cfg1.N) (r : Fin 2048) (k : Fin 896) : iblk A c 2 t (ix2 r k) = A c main_arg0 (ix2 (rowAt t r) (depthAt t k)) := by
  blk_simp [iblk]; exact congrArg _ (by blk_ext [idx_2, rowAt, depthAt])
theorem blk_3 (t : Fin cfg1.N) (k : Fin 896) (j : Fin 1024) : iblk A c 3 t (ix2 k j) = A c main_arg4 (ix2 (depthAt t k) j) := by
  blk_simp [iblk]; exact congrArg _ (by blk_ext [idx_3, depthAt])
theorem blk_4 (t : Fin cfg1.N) : iblk A c 4 t = A c main_v7 := by
  funext y; blk_simp [iblk]; exact congrArg _ (by blk_ext [idx_4])
theorem blk_5 (t : Fin cfg1.N) : iblk A c 5 t = A c main_arg6 := by
  funext y; blk_simp [iblk]; exact congrArg _ (by blk_ext [idx_5])
theorem blk_6 (t : Fin cfg1.N) : iblk A c 6 t = A c main_v8 := by
  funext y; blk_simp [iblk]; exact congrArg _ (by blk_ext [idx_6])
theorem blk_7 (t : Fin cfg1.N) : iblk A c 7 t = A c main_arg8 := by
  funext y; blk_simp [iblk]; exact congrArg _ (by blk_ext [idx_7])
theorem blk_8 (t : Fin cfg1.N) : iblk A c 8 t = A c main_v9 := by
  funext y; blk_simp [iblk]; exact congrArg _ (by blk_ext [idx_8])

/-- Where an element of the output's block lies. -/
theorem out_9 (t : Fin cfg1.N) (r : Fin 2048) (j : Fin 600) : (win1_9.blk t).view.emb (ix2 r j) = ix2 (rowAt t r) j := by
  blk_ext [idx_9, rowAt]

/-! ## The accumulator -/

/-- A sum over consecutive runs of equal length, run by run, is the sum over all of them. -/
theorem sum_runs (f : ℕ → EReal) (b n : ℕ) : (∑ i ∈ Finset.range n, ∑ k : Fin b, f (b * i + k.val)) = ∑ k ∈ Finset.range (b * n), f k := by
  induction n with
  | zero => simp
  | succ n ih => rw [Finset.sum_range_succ, ih, Nat.mul_succ, Finset.sum_range_add, Finset.sum_range fun k => f (b * n + k)]

/-- The features, the first layer's weights, and a point's blocks of them, as arrays of numbers. -/
def aX : FVec Ideal S4096x12544 .f32 := A c main_arg0
def aW : FVec Ideal S12544x1024 .f32 := A c main_arg4
def bX (t : Fin cfg1.N) : FVec Ideal S2048x896 .f32 := iblk A c 2 t
def bW (t : Fin cfg1.N) : FVec Ideal S896x1024 .f32 := iblk A c 3 t

/-- The product at one place of the contraction, for a row and a column, and zero past the end. -/
def term (R : Fin 4096) (j : Fin 1024) (n : ℕ) : EReal :=
  if h : n < 12544 then aX A c (ix2 R (⟨n, h⟩ : Fin 12544)) * aW A c (ix2 (⟨n, h⟩ : Fin 12544) j) else 0

/-- A point's product is its run of the whole row's products. -/
theorem part_eq (t : Fin cfg1.N) (r : Fin 2048) (j : Fin 1024) :
    (∑ k : Fin 896, bX A c t (ix2 r k) * bW A c t (ix2 k j)) = ∑ k : Fin 896, term A c (rowAt t r) j (896 * (t.val % 14) + k.val) := by
  refine Finset.sum_congr rfl fun k _ => ?_
  rw [term, dif_pos (by omega)]
  exact congrArg₂ (fun a b : EReal => a * b) (blk_2 A c t r k) (blk_3 A c t k j)

/-- After a point the accumulator holds its row's products over the runs so far. -/
theorem accAt_apply (r : Fin 2048) (j : Fin 1024) : ∀ (n : ℕ) (hn : n < cfg1.N),
    accAt A c n hn (ix2 r j) = ∑ i ∈ Finset.range (n % 14 + 1), ∑ k : Fin 896, term A c (rowAt ⟨n, hn⟩ r) j (896 * i + k.val) := by
  intro n
  induction n with
  | zero =>
    intro hn
    refine (congrFun (accAt_first A c ⟨0, hn⟩ rfl) _).trans ?_
    refine (pay2_apply (bX A c _) (bW A c _) r j).trans ?_
    rw [part_eq, Finset.sum_range_one]
    rfl
  | succ n ih =>
    intro hn
    by_cases h : (n + 1) % 14 = 0
    · refine (congrFun (accAt_first A c ⟨n + 1, hn⟩ h) _).trans ?_
      refine (pay2_apply (bX A c _) (bW A c _) r j).trans ?_
      rw [part_eq, h, Finset.sum_range_one]
    · refine (congrFun (accAt_later A c ⟨n + 1, hn⟩ h) _).trans ?_
      have hrow : rowAt ⟨n, Nat.lt_of_succ_lt hn⟩ r = rowAt ⟨n + 1, hn⟩ r := Fin.ext (by unfold rowAt; dsimp only; omega)
      have hmod : (n + 1) % 14 = n % 14 + 1 := by omega
      refine (pay3_apply (bX A c _) (bW A c _) _ r j).trans ?_
      rw [part_eq, hmod, Finset.sum_range_succ _ (n % 14 + 1)]
      simp only [hmod]
      exact congrArg (· + _) ((ih _).trans (by rw [hrow]))

/-- After a row's last point it holds the whole product. -/
theorem accAt_last (t : Fin cfg1.N) (ht : t.val % 14 = 13) (r : Fin 2048) (j : Fin 1024) :
    accAt A c t.val t.isLt (ix2 r j) = ∑ k : Fin 12544, aX A c (ix2 (rowAt t r) k) * aW A c (ix2 k j) := by
  rw [accAt_apply, ht, sum_runs, Finset.sum_range]
  refine Finset.sum_congr rfl fun k _ => ?_
  rw [term, dif_pos k.isLt]

end Cert.Proof.Run

end
-- ==== Proof.RefPick.lean ====
/-
  What the reference reads by index: `take` at a box number in range, and the scatter of the pair's score into the column of
  its class.
-/
module

public import proofs.«01_k».proof.Proof.Plain
public import proofs.«01_k».proof.Proof.Gen.ReferenceIdeal
public import Idealize.ShloMosaic.Lib.ReduceAll
public import Idealize.ShloMosaic.Lib.Routing.OpsSearch
public import Idealize.ShloMosaic.Lib.Routing.OpsSet
public import Idealize.ShloMosaic.Lib.Routing.OpsPair
public import Idealize.ShloMosaic.Lib.Routing.OpsOne
public import Idealize.ShloMosaic.Lib.WordCmp

@[expose] public section

set_option maxRecDepth 16384

noncomputable section

namespace Cert.Proof.Ref

open Cert.ReferenceIdeal Cert.ReferenceIdeal.Gen
open Idealize.ShloMosaic

variable {F : FTy → Type} [FloatOps F]

/-- Negative words are moved up by `n`. -/
def wrapped (n : BitVec 32) (v : IVec S4096 32) : IVec S4096 32 :=
  select (cmpi .slt v (broadcastInDim S4096 ![] bcast_S_S4096 (constantI S_ 32 0#32))) (addi v (broadcastInDim S4096 ![] bcast_S_S4096 (constantI S_ 32 n))) v

/-- A vector as a column. -/
def column (v : IVec S4096 32) : IVec S4096x1 32 := broadcastInDim S4096x1 ![0] bcast_S4096_S4096x1_0 v

/-- Which words, moved up, name a box. -/
def named (v : IVec S4096 32) : IVec S4096 1 :=
  Host.reduce IntOp.andi (andi (cmpi .sge (column (wrapped 5000#32 v)) (broadcastInDim S4096x1 ![] bcast_S_S4096x1 (constantI S_ 32 0#32)))
    (cmpi .sle (column (wrapped 5000#32 v)) (broadcastInDim S4096x1 ![0, 1] bcast_S1x1_S4096x1_0_1 (broadcastInDim S1x1 ![1] bcast_S1_S1x1_1 (constantI S1 32 4999#32)))))
    (constantI S_ 1 1#1) reducesTo_S4096x1_S4096_d1 h_S_

/-- `take`: the named entries of a table, and a filler where no entry is named. -/
def taken {α : Type} (x : S5000.Idx → α) (v : IVec S4096 32) (fill : S4096.Idx → α) : S4096.Idx → α :=
  select (named v) (Host.gather gather_S5000_S4096x1_S4096_n_0_n_n_0_1_1 x (column (wrapped 5000#32 v))) fill

/-- A word that is not negative stays. -/
theorem wrapped_eq (n : BitVec 32) (v : IVec S4096 32) (h : ∀ j, (v j).toNat < 2 ^ 31) : wrapped n v = v := funext fun j =>
  Idealize.ShloMosaic.Routing.wrap_of_lt (v j) (IntOp.addi (v j) n) (h j)

theorem column_apply (v : IVec S4096 32) (r : Fin 4096) (z : Fin 1) : column v (ix2 r z) = v (ix1 r) := by
  unfold column
  pointwise

/-- Words in range all name a box. -/
theorem named_eq (v : IVec S4096 32) (h : ∀ j, (v j).toNat < 5000) (j : S4096.Idx) : named v j = 1#1 := by
  unfold named
  rw [wrapped_eq _ v fun j => (h j).trans (by decide)]
  refine Host.reduce_andi_one _ _ _ _ j rfl fun i => ?_
  obtain ⟨a, b, rfl⟩ : ∃ (a : Fin 4096) (b : Fin 1), i = ix2 a b := ⟨i 0, i 1, eq_ix2 i⟩
  show IntOp.andi (IntOp.cmpi .sge (column v (ix2 a b)) 0#32) (IntOp.cmpi .sle (column v (ix2 a b)) 4999#32) = 1#1
  rw [column_apply]
  have := h (ix1 a)
  refine IntOp.andi_eq_one.2 ⟨IntOp.cmpi_sge.2 ?_, IntOp.cmpi_sle.2 ?_⟩ <;>
    simp only [BitVec.toInt_eq_toNat_cond, BitVec.toNat_ofNat, Nat.reducePow] <;> omega

/-- `take` at words in range reads the named boxes. -/
theorem taken_apply {α : Type} (x : S5000.Idx → α) (v : IVec S4096 32) (fill : S4096.Idx → α) (h : ∀ j, (v j).toNat < 5000) (r : Fin 4096) :
    taken x v fill (ix1 r) = x (Plain.box (v (ix1 r))) := by
  have hv := h (ix1 r)
  show Scalar.select (named v (ix1 r)) _ _ = _
  rw [named_eq v h, wrapped_eq _ v fun j => (h j).trans (by decide)]
  refine (Idealize.ShloMosaic.Routing.take_ap (N := 5000) (n := 4096) gather_S5000_S4096x1_S4096_n_0_n_n_0_1_1 rfl rfl rfl rfl x (column v) r hv (by omega) ?_).trans ?_
  · refine (column_apply v r 0).trans ?_
    simp
  · exact congrArg x (funext fun a => match a with | ⟨0, _⟩ => Fin.ext (Nat.mod_eq_of_lt hv).symm)

/-! ## The scatter -/

/-- The table that the scatter reads: the row number, and the class. -/
def places (cls : IVec S4096 32) : IVec S4096x2 32 :=
  concatenate S4096x2 1 [⟨S4096x1, column (wrapped 4096#32 (iotaInDim S4096 32 0))⟩, ⟨S4096x1, column (wrapped 600#32 cls)⟩] concatenates_S4096x1_S4096x1_S4096x2_d1

/-- The pair's score in the column of its class, and zero elsewhere. -/
def mapped (cls : IVec S4096 32) (zero : FVec F S4096x600 .f32) (prod : FVec F S4096 .f32) : FVec F S4096x600 .f32 :=
  Host.scatter scatter_S4096x600_S4096x2_S4096_n_01_01_1 (fun _ b => b) zero (places cls) prod

theorem places_row (cls : IVec S4096 32) (r : Fin 4096) : places cls (ix2 r (0 : Fin 2)) = BitVec.ofNat 32 r.val := by
  unfold places
  rw [wrapped_eq 4096#32 _ fun j => ?_]
  · pointwise
    rw [column_apply]
    rfl
  · obtain ⟨a, rfl⟩ : ∃ a : Fin 4096, j = ix1 a := ⟨j 0, eq_ix1 j⟩
    have := a.isLt
    show (BitVec.ofNat 32 a.val).toNat < _
    rw [BitVec.toNat_ofNat]
    omega

theorem places_class (cls : IVec S4096 32) (h : ∀ j, (cls j).toNat < 600) (r : Fin 4096) : places cls (ix2 r (1 : Fin 2)) = cls (ix1 r) := by
  unfold places
  rw [wrapped_eq 600#32 cls fun j => (h j).trans (by decide)]
  pointwise
  rw [column_apply]

/-- A row's update lands in that row, in the column of its class. -/
theorem lands (cls : IVec S4096 32) (h : ∀ j, (cls j).toNat < 600) (k r : Fin 4096) (c : Fin 600) :
    scatter_S4096x600_S4096x2_S4096_n_01_01_1.resultIdx? (ix1 k) (places cls) = some (ix2 r c) ↔ k = r ∧ (cls (ix1 k)).toNat = c.val := by
  have hw : ∀ a, scatter_S4096x600_S4096x2_S4096_n_01_01_1.window (ix1 k) a = 0 := fun a => by
    fin_cases a <;> rfl
  have hs : ∀ a : Fin 2, scatter_S4096x600_S4096x2_S4096_n_01_01_1.start (ix1 k) (places cls) a = (places cls (ix2 k a)).toInt := fun a => by
    unfold ScatterDims.start
    rw [dif_pos (by fin_cases a <;> decide)]
    congr 2
    funext b
    fin_cases b <;> fin_cases a <;> rfl
  have e0 := hs 0
  have e1 := hs 1
  have hk := k.isLt
  have hc := h (ix1 k)
  rw [places_row, BitVec.toInt_eq_toNat_cond, BitVec.toNat_ofNat] at e0
  rw [places_class _ h, BitVec.toInt_eq_toNat_cond] at e1
  rw [Idealize.ShloMosaic.Routing.resultIdx?_eq_some, Fin.ext_iff]
  constructor
  · intro g
    have g0 := g 0
    have g1 := g 1
    rw [hw] at g0 g1
    rw [e0] at g0
    rw [e1] at g1
    have q0 : ((ix2 r c : S4096x600.Idx) 0).val = r.val := rfl
    have q1 : ((ix2 r c : S4096x600.Idx) 1).val = c.val := rfl
    rw [q0] at g0
    rw [q1] at g1
    split at g0 <;> split at g1 <;> omega
  · rintro ⟨g0, g1⟩ a
    have q0 : ((ix2 r c : S4096x600.Idx) 0).val = r.val := rfl
    have q1 : ((ix2 r c : S4096x600.Idx) 1).val = c.val := rfl
    rw [hw]
    match a with
    | ⟨0, _⟩ =>
      show scatter_S4096x600_S4096x2_S4096_n_01_01_1.start (ix1 k) (places cls) 0 + _ = (((ix2 r c : S4096x600.Idx) 0).val : ℤ)
      rw [e0, q0]; split <;> omega
    | ⟨1, _⟩ =>
      show scatter_S4096x600_S4096x2_S4096_n_01_01_1.start (ix1 k) (places cls) 1 + _ = (((ix2 r c : S4096x600.Idx) 1).val : ℤ)
      rw [e1, q1]; split <;> omega

/-- The scatter read at an element. -/
theorem mapped_apply (cls : IVec S4096 32) (h : ∀ j, (cls j).toNat < 600) (zero : FVec F S4096x600 .f32) (prod : FVec F S4096 .f32) (r : Fin 4096) (c : Fin 600) :
    mapped cls zero prod (ix2 r c) = if (cls (ix1 r)).toNat = c.val then prod (ix1 r) else zero (ix2 r c) := by
  unfold mapped
  split
  · next e =>
    refine Idealize.ShloMosaic.Routing.scatter_set_hit _ zero _ prod _ _ (fun k hk => ?_) (ix1 r) ((lands cls h r r c).2 ⟨rfl, e⟩)
    obtain ⟨a, rfl⟩ : ∃ a : Fin 4096, k = ix1 a := ⟨k 0, eq_ix1 k⟩
    rw [((lands cls h a r c).1 hk).1]
  · next e =>
    refine Idealize.ShloMosaic.Routing.scatter_set_miss _ zero _ prod _ fun k hk => ?_
    obtain ⟨a, rfl⟩ : ∃ a : Fin 4096, k = ix1 a := ⟨k 0, eq_ix1 k⟩
    obtain ⟨rfl, q⟩ := (lands cls h a r c).1 hk
    exact e q

end Cert.Proof.Ref

end
-- ==== Proof.Ref.lean ====
/-
  The reference's result, element by element, is the plain mathematics.
-/
module

public import proofs.«01_k».proof.Proof.RefPick
public import proofs.«01_k».proof.Proof.Gen.ReferenceIdeal.Run
public import Idealize.ShloMosaic.Lib.Tactic.CleanTypes

@[expose] public section

set_option maxRecDepth 16384

noncomputable section

namespace Cert.Proof.Ref

open Cert.ReferenceIdeal Cert.ReferenceIdeal.Gen
open Idealize.ShloMosaic Idealize.ShloMosaic.TcCoe

variable {F : FTy → Type} [FloatOps F]

/-- A column of the pairs: the subjects' box numbers and the objects'. -/
def subjects (p : IVec S4096x2 32) : IVec S4096 32 := shapeCast S4096 (extractStridedSlice S4096x1 ![0, 0] p slices_S4096x2_S4096x1_0_0) shapeCasts_S4096x1_S4096
def objects (p : IVec S4096x2 32) : IVec S4096 32 := shapeCast S4096 (extractStridedSlice S4096x1 ![0, 1] p slices_S4096x2_S4096x1_0_1) shapeCasts_S4096x1_S4096

/-- The two hidden layers and the logits, as the reference writes them. -/
def layer1 (x : FVec F S4096x12544 .f32) (W1 : FVec F S12544x1024 .f32) (b1 : FVec F S1024 .f32) : FVec F S4096x1024 .f32 :=
  maximumf (addf (Host.dotGeneral dot_S4096x12544_S12544x1024_S4096x1024_1_0_0_1_n_n none x W1)
    (broadcastInDim S4096x1024 ![0, 1] bcast_S1x1024_S4096x1024_0_1 (broadcastInDim S1x1024 ![1] bcast_S1024_S1x1024_1 b1)))
    (broadcastInDim S4096x1024 ![] bcast_S_S4096x1024 (constant S_ .f32 0x00000000#32))
def layer2 (h : FVec F S4096x1024 .f32) (W2 : FVec F S1024x1024 .f32) (b2 : FVec F S1024 .f32) : FVec F S4096x1024 .f32 :=
  maximumf (addf (Host.dotGeneral dot_S4096x1024_S1024x1024_S4096x1024_1_0_0_1_n_n none h W2)
    (broadcastInDim S4096x1024 ![0, 1] bcast_S1x1024_S4096x1024_0_1 (broadcastInDim S1x1024 ![1] bcast_S1024_S1x1024_1 b2)))
    (broadcastInDim S4096x1024 ![] bcast_S_S4096x1024 (constant S_ .f32 0x00000000#32))
def logits (h : FVec F S4096x1024 .f32) (W3 : FVec F S1024x600 .f32) (b3 : FVec F S600 .f32) : FVec F S4096x600 .f32 :=
  addf (Host.dotGeneral dot_S4096x1024_S1024x600_S4096x600_1_0_0_1_n_n none h W3)
    (broadcastInDim S4096x600 ![0, 1] bcast_S1x600_S4096x600_0_1 (broadcastInDim S1x600 ![1] bcast_S600_S1x600_1 b3))
def probs (z : FVec F S4096x600 .f32) : FVec F S4096x600 .f32 :=
  Host.divf (broadcastInDim S4096x600 ![] bcast_S_S4096x600 (constant S_ .f32 0x3F800000#32))
    (addf (broadcastInDim S4096x600 ![] bcast_S_S4096x600 (constant S_ .f32 0x3F800000#32)) (Host.exp (Host.negf z)))

/-- The whole result. -/
def whole (a0 : FVec F S4096x12544 .f32) (a1 : FVec F S5000 .f32) (a2 : IVec S5000 32) (a3 : IVec S4096x2 32) (a4 : FVec F S12544x1024 .f32) (a5 : FVec F S1024 .f32)
    (a6 : FVec F S1024x1024 .f32) (a7 : FVec F S1024 .f32) (a8 : FVec F S1024x600 .f32) (a9 : FVec F S600 .f32) : FVec F S4096x600 .f32 :=
  mulf (probs (logits (layer2 (layer1 a0 a4 a5) a6 a7) a8 a9))
    (mapped (taken a2 (objects a3) (broadcastInDim S4096 ![] bcast_S_S4096 (constantI S_ 32 2147483648#32)))
      (broadcastInDim S4096x600 ![] bcast_S_S4096x600 (constant S_ .f32 0x00000000#32))
      (mulf (taken a1 (subjects a3) (broadcastInDim S4096 ![] bcast_S_S4096 (constant S_ .f32 0x7FC00000#32)))
        (taken a1 (objects a3) (broadcastInDim S4096 ![] bcast_S_S4096 (constant S_ .f32 0x7FC00000#32)))))

/-- The run's result is that term. -/
theorem res_eq (m : (ℓ : Loc nD τ sig) → Buf (Elt F) ℓ) (c : Dev nD) :
    Cert.ReferenceIdeal.Value.res_main_v44 m c
      = whole (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := rfl

/-! ## At the extended reals -/

theorem layer1_apply (x : FVec Ideal S4096x12544 .f32) (W1 : FVec Ideal S12544x1024 .f32) (b1 : FVec Ideal S1024 .f32) (r : Fin 4096) (c : Fin 1024) :
    layer1 x W1 b1 (ix2 r c) = Plain.hid1 x W1 b1 r c := by
  pointwise [layer1, Plain.hid1, Plain.lin]

theorem layer2_apply (h : FVec Ideal S4096x1024 .f32) (W2 : FVec Ideal S1024x1024 .f32) (b2 : FVec Ideal S1024 .f32) (r : Fin 4096) (c : Fin 1024) :
    layer2 h W2 b2 (ix2 r c) = Plain.hid2 (fun k => h (ix2 r k)) W2 b2 c := by
  pointwise [layer2, Plain.hid2, Plain.lin]

theorem logits_apply (h : FVec Ideal S4096x1024 .f32) (W3 : FVec Ideal S1024x600 .f32) (b3 : FVec Ideal S600 .f32) (r : Fin 4096) (c : Fin 600) :
    logits h W3 b3 (ix2 r c) = Plain.lin (fun k => h (ix2 r k)) W3 b3 c := by
  pointwise [logits, Plain.lin]

theorem probs_apply (z : FVec Ideal S4096x600 .f32) (r : Fin 4096) (c : Fin 600) : probs z (ix2 r c) = Plain.prob (z (ix2 r c)) := by
  pointwise [probs, Plain.prob]

/-- **The reference, element by element.** -/
theorem whole_apply (a0 : FVec Ideal S4096x12544 .f32) (a1 : FVec Ideal S5000 .f32) (a2 : IVec S5000 32) (a3 : IVec S4096x2 32) (a4 : FVec Ideal S12544x1024 .f32)
    (a5 : FVec Ideal S1024 .f32) (a6 : FVec Ideal S1024x1024 .f32) (a7 : FVec Ideal S1024 .f32) (a8 : FVec Ideal S1024x600 .f32) (a9 : FVec Ideal S600 .f32)
    (hl : ∀ j, (a2 j).toNat < 80) (hp : ∀ j, (a3 j).toNat < 5000) (r : Fin 4096) (c : Fin 600) :
    whole a0 a1 a2 a3 a4 a5 a6 a7 a8 a9 (ix2 r c)
      = Plain.score (Plain.cell a0 a4 a5 a6 a7 a8 a9 r c) a1 a2 (subjects a3 (ix1 r)) (objects a3 (ix1 r)) c := by
  have hs : ∀ j, (subjects a3 j).toNat < 5000 := fun j => hp _
  have ho : ∀ j, (objects a3 j).toNat < 5000 := fun j => hp _
  unfold whole
  show _ * _ = _
  rw [probs_apply, logits_apply, mapped_apply _ fun j => ?_]
  · simp only [layer2_apply, layer1_apply, taken_apply _ _ _ ho]
    unfold Plain.score
    split
    · next e =>
      show _ * (taken a1 (subjects a3) _ (ix1 r) * taken a1 (objects a3) _ (ix1 r)) = _
      rw [taken_apply _ _ _ hs, taken_apply _ _ _ ho]
      rfl
    · next e =>
      show _ * Ideal.ofBits .f32 0x00000000#32 = _
      rw [Ideal.ofBits_zero_f32, mul_zero]
  · obtain ⟨a, rfl⟩ : ∃ a : Fin 4096, j = ix1 a := ⟨j 0, eq_ix1 j⟩
    rw [taken_apply _ _ _ ho]
    exact (hl _).trans (by decide)

end Cert.Proof.Ref

end
-- ==== Proof.Value.lean ====
/-
  The kernel's output, element by element, is the plain pair score; the reference computes the same, so both write equal arrays.
-/
module

public import proofs.«01_k».proof.Proof.Frames
public import proofs.«01_k».proof.Proof.Array
public import proofs.«01_k».proof.Proof.Ref
public import Idealize.ShloMosaic.Lib.ValueLayout

@[expose] public section

set_option maxRecDepth 16384

noncomputable section

namespace Cert.Proof.Run

open Cert.KernelIdeal Cert.KernelIdeal.Gen
open Idealize.ShloMosaic Idealize.ShloMosaic.TcCoe

/-! ## The output from the contents at the region's entry -/

section Region
variable (A : Bufs Ideal) (c : Dev nD)

/-- A row of biases held as a matrix of one row. -/
def rowOf {n : ℕ} (x : (⟨2, ![1, n]⟩ : Shape).Idx → EReal) : Plain.Row n := fun i => x (ix2 0 (i 0))

/-- The pair score of a row and a column, of the contents at the region's entry. -/
def entry (R : Fin 4096) (j : Fin 600) : EReal :=
  if (A c main_v6 (ix2 R (0 : Fin 1)) : BitVec 32).toNat = j.val
  then Plain.cell (A c main_arg0) (A c main_arg4) (rowOf (A c main_v7)) (A c main_arg6) (rowOf (A c main_v8)) (A c main_arg8) (rowOf (A c main_v9)) R j
    * (A c main_v5 (ix2 R (0 : Fin 1)) : EReal)
  else 0

/-- A row of a block, read out of its chunk of 256 rows. -/
theorem rowsOf_apply {e : EltTy} {n : ℕ} (x : Vec Ideal ⟨2, ![2048, n]⟩ e) (r : Fin 2048) (k : Fin n) :
    rowsOf (r.val / 256) x (ix2 (⟨r.val % 256, Nat.mod_lt _ (by decide)⟩ : Fin 256) k) = x (ix2 r k) := by
  have hr := r.isLt
  refine congrArg x (funext fun a => ?_)
  fin_cases a
  · exact Fin.ext (show (256 * (r.val / 256) + r.val % 256) % 2048 = r.val by omega)
  · rfl

/-- A row's place in its chunk. -/
theorem inChunk_apply (r : Fin 2048) (j : Fin 600) : inChunk (ix2 r j) = ix2 (⟨r.val % 256, Nat.mod_lt _ (by decide)⟩ : Fin 256) j := by
  refine funext fun a => ?_
  fin_cases a <;> rfl

/-- The block a row's last point leaves. -/
theorem outAt_apply (t : Fin cfg1.N) (ht : t.val % 14 = 13) (r : Fin 2048) (j : Fin 600) : outAt A c t (ix2 r j) = entry A c (rowAt t r) j := by
  have hh : ∀ k : Fin 1024, max (accAt A c t.val t.isLt (ix2 r k) + iblk A c 4 t (ix2 (0 : Fin 1) k) : EReal) 0
      = Plain.hid1 (A c main_arg0) (A c main_arg4) (rowOf (A c main_v7)) (rowAt t r) k := fun k => by
    rw [accAt_last A c t ht r k, blk_4]; rfl
  unfold outAt outBlk
  rw [inChunk_apply, pay7_apply]
  simp only [show (ix2 r j : S2048x600.Idx) 0 = r from rfl, rowsOf_apply]
  rw [funext hh, blk_0, blk_1, blk_5, blk_6, blk_7, blk_8]
  rfl

/-- The output array, of the contents at the region's entry. -/
theorem arr_eq : (dats A 0 c).arrAt 9 cfg1.N = fun i => entry A c (i 0) (i 1) := by
  refine (dats A 0 c).arrAt_eq_of_covers 9 _ covers_9 fun t hf y => ?_
  have ht : t.val % 14 = 13 := (flush1_9 t).mp hf
  blk_simp
  rw [after_9]
  obtain ⟨r, j, rfl⟩ : ∃ (r : Fin 2048) (j : Fin 600), y = ix2 r j := ⟨y 0, y 1, eq_ix2 y⟩
  rw [outAt_apply A c t ht r j, out_9]
  rfl

end Region

/-! ## The contents at the region's entry -/

variable (m : (ℓ : Loc nD τ sig) → Buf (Elt Ideal) ℓ) (d : Dev nD)

open Idealize.ShloMosaic.StableHlo

/-- A vector as a column, and as a row. -/
theorem column_apply {α : Type} (x : S4096.Idx → α) (R : Fin 4096) : shapeCast S4096x1 x shapeCasts_S4096_S4096x1 (ix2 R (0 : Fin 1)) = x (ix1 R) := by
  pointwise []
theorem row_apply {n : ℕ} (x : (⟨1, ![n]⟩ : Shape).Idx → EReal) (h) : rowOf (shapeCast ⟨2, ![1, n]⟩ x h) = x := by
  funext i
  obtain ⟨k, rfl⟩ : ∃ k : Fin n, i = ix1 k := ⟨i 0, eq_ix1 i⟩
  exact Idealize.ShloMosaic.ValueIdx.shapeCast_a_1a_apply x h 0 k

/-- The two gathered columns are the tiles' products and labels; the three rows are the biases. -/
theorem v5_apply (R : Fin 4096) : A₃ m d main_v5 (ix2 R (0 : Fin 1)) = prodAll m (hI m) (oI m) d (ix1 R) := by
  have e : V₂ m d (Proc.tc.devRef main_v4_0) = prodAll m (hI m) (oI m) d := by
    unfold V₂; rw [Function.update_of_ne (StableHlo.devRef_ne_of_ne (by decide)), Function.update_self]
  have h : A₃ m d main_v5 = shapeCast S4096x1 (prodAll m (hI m) (oI m) d : S4096.Idx → EReal) shapeCasts_S4096_S4096x1 := by
    unfold A₃ V₃; simp only [hostOps1]; after_results_simp; rw [e]; rfl
  rw [h]; exact column_apply _ R
theorem v6_apply (R : Fin 4096) : A₃ m d main_v6 (ix2 R (0 : Fin 1)) = clsAll m (oI m) d (ix1 R) := by
  have e : V₂ m d (Proc.tc.devRef main_v4_1) = clsAll m (oI m) d := by
    unfold V₂; rw [Function.update_self]
  have h : A₃ m d main_v6 = shapeCast S4096x1 (clsAll m (oI m) d : S4096.Idx → BitVec 32) shapeCasts_S4096_S4096x1 := by
    unfold A₃ V₃; simp only [hostOps1]; after_results_simp; rw [e]; rfl
  rw [h]; exact column_apply _ R
theorem v7_row : rowOf (A₃ m d main_v7) = m ((SparseCore.T d).loc main_arg5) := by
  have e : V₂ m d (Proc.tc.devRef main_arg5) = m ((SparseCore.T d).loc main_arg5) := (V₂_eq m d main_arg5 (by decide)).trans (V₁_eq m d main_arg5 (by decide))
  have h : A₃ m d main_v7 = shapeCast S1x1024 (m ((SparseCore.T d).loc main_arg5) : S1024.Idx → EReal) shapeCasts_S1024_S1x1024 := by
    unfold A₃ V₃; simp only [hostOps1]; after_results_simp; rw [e]; rfl
  rw [h]; exact row_apply _ _
theorem v8_row : rowOf (A₃ m d main_v8) = m ((SparseCore.T d).loc main_arg7) := by
  have e : V₂ m d (Proc.tc.devRef main_arg7) = m ((SparseCore.T d).loc main_arg7) := (V₂_eq m d main_arg7 (by decide)).trans (V₁_eq m d main_arg7 (by decide))
  have h : A₃ m d main_v8 = shapeCast S1x1024 (m ((SparseCore.T d).loc main_arg7) : S1024.Idx → EReal) shapeCasts_S1024_S1x1024 := by
    unfold A₃ V₃; simp only [hostOps1]; after_results_simp; rw [e]; rfl
  rw [h]; exact row_apply _ _
theorem v9_row : rowOf (A₃ m d main_v9) = m ((SparseCore.T d).loc main_arg9) := by
  have e : V₂ m d (Proc.tc.devRef main_arg9) = m ((SparseCore.T d).loc main_arg9) := (V₂_eq m d main_arg9 (by decide)).trans (V₁_eq m d main_arg9 (by decide))
  have h : A₃ m d main_v9 = shapeCast S1x600 (m ((SparseCore.T d).loc main_arg9) : S600.Idx → EReal) shapeCasts_S600_S1x600 := by
    unfold A₃ V₃; simp only [hostOps1]; after_results_simp; rw [e]; rfl
  rw [h]; exact row_apply _ _

/-- The table entry a box number names. -/
theorem at5000_eq (v : BitVec 32) : at5000 v = Plain.box v := by
  refine funext fun a => ?_
  fin_cases a
  rfl

/-- An element of the output. -/
theorem outArr_apply (R : Fin 4096) (j : Fin 600) :
    outArr m d (ix2 R j) = Plain.score
      (Plain.cell (m ((SparseCore.T d).loc main_arg0)) (m ((SparseCore.T d).loc main_arg4)) (m ((SparseCore.T d).loc main_arg5)) (m ((SparseCore.T d).loc main_arg6))
        (m ((SparseCore.T d).loc main_arg7)) (m ((SparseCore.T d).loc main_arg8)) (m ((SparseCore.T d).loc main_arg9)) R j)
      (m ((SparseCore.T d).loc main_arg1)) (m ((SparseCore.T d).loc main_arg2)) (hI m d (ix1 R)) (oI m d (ix1 R)) j := by
  unfold outArr
  rw [arr_eq]
  show entry (A₃ m) d R j = _
  unfold entry Plain.score
  rw [v5_apply, v6_apply, v7_row, v8_row, v9_row, A₃_eq m d main_arg0 (by decide) (by decide) (by decide), A₃_eq m d main_arg4 (by decide) (by decide) (by decide),
    A₃_eq m d main_arg6 (by decide) (by decide) (by decide), A₃_eq m d main_arg8 (by decide) (by decide) (by decide)]
  unfold prodAll clsAll
  simp only [at5000_eq]
  rfl

/-! ## The two programs -/

/-- The kernel's output is the reference's, of the same arguments in range. -/
theorem outArr_eq (h : InRange m) :
    (outArr m d : S4096x600.Idx → EReal) = Ref.whole (F := Ideal) (m ((SparseCore.T d).loc main_arg0)) (m ((SparseCore.T d).loc main_arg1)) (m ((SparseCore.T d).loc main_arg2)) (m ((SparseCore.T d).loc main_arg3))
      (m ((SparseCore.T d).loc main_arg4)) (m ((SparseCore.T d).loc main_arg5)) (m ((SparseCore.T d).loc main_arg6)) (m ((SparseCore.T d).loc main_arg7))
      (m ((SparseCore.T d).loc main_arg8)) (m ((SparseCore.T d).loc main_arg9)) := by
  refine funext fun i => ?_
  obtain ⟨R, j, rfl⟩ : ∃ (R : Fin 4096) (j : Fin 600), i = ix2 R j := ⟨i 0, i 1, eq_ix2 i⟩
  rw [outArr_apply, hI_eq, oI_eq]
  exact (Ref.whole_apply _ _ _ _ _ _ _ _ _ _ (h d).1 (h d).2 R j).symm

/-- From the same arguments, in range, the kernel and the reference write the same array at the extended reals. -/
theorem algebraic : Cert.algebraic_KernelIdeal_ReferenceIdeal := by
  intro m g m' g' hpre hargs
  refine ⟨outArr m, (θ_run Cert.KernelIdeal.defs _ _).mono (fun _ h => h.1) (run_main (F := Ideal) m g (preOK_of_range m (range_ideal m hpre))), ?_⟩
  refine (θ_run Cert.ReferenceIdeal.defs _ _).mono (fun r h c => ⟨(h c).1.trans ?_, (h c).2⟩) (Cert.ReferenceIdeal.Value.run m' g')
  obtain ⟨h0, h1, h2, h3, h4, h5, h6, h7, h8, h9⟩ := hargs c
  rw [Ref.res_eq, h0, h1, h2, h3, h4, h5, h6, h7, h8, h9]
  exact (outArr_eq m c (range_ideal m hpre)).symm

/-- The reference's frame under the kernel's precondition. -/
theorem frame_reference_pre : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run m ρ)

end Cert.Proof.Run

end
-- ==== Proof.lean ====
/-
  The claims about the pair-gather kernel, assembled from the modules under Proof/:

  * TileStep, Tile: one SparseCore tile gathers its 128 pairs;
  * Body, Region: the TensorCore call, its body and its pipeline;
  * Call, Main: how the arrays go out to the tiles and come back, and the run of the whole program;
  * Frames: the precondition read, and the frames;
  * Plain: the pair score in plain mathematics;
  * RefPick, Ref: the reference computes it;
  * Block, Array: the TensorCore call's blocks and accumulator at the extended reals;
  * Value: the kernel computes the pair score too, and so the algebraic claim.
-/
module

public import proofs.«01_k».proof.Proof.Frames
public import proofs.«01_k».proof.Proof.Value
public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Pre_in_range.Gen.facts,
  Run.frame_kernel, Run.frame_ideal, Run.frame_reference, Run.frame_reference_pre, trivial, Run.algebraic⟩

end Cert.Proof

end
